-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 512]⟩ ⟨2, ![512, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 512]⟩ ⟨2, ![16384, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x512 : Shape := ⟨2, ![512, 512]⟩
abbrev S2x128x64x64 : Shape := ⟨4, ![2, 128, 64, 64]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S2x128x64x64 : S_.BroadcastsInDim S2x128x64x64 (![] : Fin 0 → Fin S2x128x64x64.rank)
  reducesTo_S2x128x64x64_S_d0_1_2_3 : S2x128x64x64.ReducesTo [0, 1, 2, 3] S_

variable [Facts]

def fn {F : FTy → Type} [FloatOps F] (main_arg0 : FVec F S2x128x512 .f32) (main_arg1 : FVec F S512x512 .f32) (main_arg2 : FVec F S2x128x64x64 .f32) (main_arg3 : FVec F S2x128x64x64 .f32) (main_arg4 : FVec F S512x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S2x128x64x64 .f32 := Host.absf main_arg2
  let main_cst_2 : FVec F S_ .f32 := constant S_ .f32 0x7F800000#32
  let main_v10 : FVec F S2x128x64x64 .f32 := broadcastInDim S2x128x64x64 ![] bcast_S_S2x128x64x64 main_cst_2
  let main_v11 : IVec S2x128x64x64 1 := cmpf .olt main_v9 main_v10
  let main_c_3 : IVec S_ 1 := constantI S_ 1 1#1
  let main_v12 : IVec S_ 1 := (fun x v => Host.reduce IntOp.andi x v reducesTo_S2x128x64x64_S_d0_1_2_3 h_S_) main_v11 main_c_3
  let main_v13 : IVec S_ 1 := andi main_v8 main_v12
  main_v13
-- ==== Pre_finite_scores_ReferenceIdeal.lean ====
abbrev S2x128x512 : Shape := ⟨3, ![2, 128, 512]⟩
abbrev S512x16384 : Shape := ⟨2, ![512, 16384]⟩
abbrev S2x128x64x64 : Shape := ⟨4, ![2, 128, 64, 64]⟩
abbrev S16384x512 : Shape := ⟨2, ![16384, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x16384 : S_.BroadcastsInDim S512x16384 (![] : Fin 0 → Fin S512x16384.rank)
  reducesTo_S512x16384_S_d0_1 : S512x16384.ReducesTo [0, 1] S_
  bcast_S_S2x128x64x64 : S_.BroadcastsInDim S2x128x64x64 (![] : Fin 0 → Fin S2x128x64x64.rank)
  reducesTo_S2x128x64x64_S_d0_1_2_3 : S2x128x64x64.ReducesTo [0, 1, 2, 3] S_

variable [Facts]

def fn {F : FTy → Type} [FloatOps F] (main_arg0 : FVec F S2x128x512 .f32) (main_arg1 : FVec F S512x16384 .f32) (main_arg2 : FVec F S2x128x64x64 .f32) (main_arg3 : FVec F S2x128x64x64 .f32) (main_arg4 : FVec F S16384x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x16384 .f32 := Host.absf main_arg1
  let main_cst_0 : FVec F S_ .f32 := constant S_ .f32 0x7F800000#32
  let main_v5 : FVec F S512x16384 .f32 := broadcastInDim S512x16384 ![] bcast_S_S512x16384 main_cst_0
  let main_v6 : IVec S512x16384 1 := cmpf .olt main_v4 main_v5
  let main_c_1 : IVec S_ 1 := constantI S_ 1 1#1
  let main_v7 : IVec S_ 1 := (fun x v => Host.reduce IntOp.andi x v reducesTo_S512x16384_S_d0_1 h_S_) main_v6 main_c_1
  let main_v8 : IVec S_ 1 := andi main_v3 main_v7
  let main_v9 : FVec F S2x128x64x64 .f32 := Host.absf main_arg2
  let main_cst_2 : FVec F S_ .f32 := constant S_ .f32 0x7F800000#32
  let main_v10 : FVec F S2x128x64x64 .f32 := broadcastInDim S2x128x64x64 ![] bcast_S_S2x128x64x64 main_cst_2
  let main_v11 : IVec S2x128x64x64 1 := cmpf .olt main_v9 main_v10
  let main_c_3 : IVec S_ 1 := constantI S_ 1 1#1
  let main_v12 : IVec S_ 1 := (fun x v => Host.reduce IntOp.andi x v reducesTo_S2x128x64x64_S_d0_1_2_3 h_S_) main_v11 main_c_3
  let main_v13 : IVec S_ 1 := andi main_v8 main_v12
  main_v13
-- ==== Kernel.lean ====
abbrev S2x128x512 : Shape := ⟨3, ![2, 128, 512]⟩
abbrev S512x512 : Shape := ⟨2, ![512, 512]⟩
abbrev S2x128x64x64 : Shape := ⟨4, ![2, 128, 64, 64]⟩
abbrev S_ : Shape := ⟨0, ![]⟩
abbrev S2x128x2x64 : Shape := ⟨4, ![2, 128, 2, 64]⟩
abbrev S2x2x64x128 : Shape := ⟨4, ![2, 2, 64, 128]⟩
abbrev S2x2x128x64 : Shape := ⟨4, ![2, 2, 128, 64]⟩
abbrev S256x512 : Shape := ⟨2, ![256, 512]⟩
abbrev S32x8x512 : Shape := ⟨3, ![32, 8, 512]⟩
abbrev S32 : Shape := ⟨1, ![32]⟩
abbrev S64x128 : Shape := ⟨2, ![64, 128]⟩
abbrev S128x64 : Shape := ⟨2, ![128, 64]⟩
abbrev S128x512 : Shape := ⟨2, ![128, 512]⟩
abbrev S128x256 : Shape := ⟨2, ![128, 256]⟩
abbrev S1x1x64x128 : Shape := ⟨4, ![1, 1, 64, 128]⟩
abbrev S1x1x128x64 : Shape := ⟨4, ![1, 1, 128, 64]⟩
abbrev S64x512 : Shape := ⟨2, ![64, 512]⟩
abbrev S512x256 : Shape := ⟨2, ![512, 256]⟩
abbrev S128x128 : Shape := ⟨2, ![128, 128]⟩
abbrev S128 : Shape := ⟨1, ![128]⟩
abbrev S128x1 : Shape := ⟨2, ![128, 1]⟩
abbrev S16x8x512 : Shape := ⟨3, ![16, 8, 512]⟩
abbrev S1 : Shape := ⟨1, ![1]⟩
abbrev S1x8x512 : Shape := ⟨3, ![1, 8, 512]⟩
abbrev S8x512 : Shape := ⟨2, ![8, 512]⟩

abbrev nBuf : Space → Nat
  | .hbm => 38
  | .vmem => 9
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S2x128x64x64, .f32⟩
  | .hbm, ⟨3, _⟩ => ⟨S2x128x64x64, .f32⟩
  | .hbm, ⟨4, _⟩ => ⟨S512x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x2x64, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x128x2x64, .f32⟩
  | .hbm, ⟨33, _⟩ => ⟨S2x2x64x128, .f32⟩
  | .hbm, ⟨34, _⟩ => ⟨S2x2x128x64, .f32⟩
  | .hbm, ⟨35, _⟩ => ⟨S256x512, .f32⟩
  | .hbm, ⟨36, _⟩ => ⟨S256x512, .f32⟩
  | .hbm, ⟨37, _⟩ => ⟨S2x128x512, .f32⟩
  | .local _ .vmem, ⟨0, _⟩ => ⟨S256x512, .f32⟩
  | .local _ .vmem, ⟨1, _⟩ => ⟨S512x512, .f32⟩
  | .local _ .vmem, ⟨2, _⟩ => ⟨S512x512, .f32⟩
  | .local _ .vmem, ⟨3, _⟩ => ⟨S2x2x64x128, .f32⟩
  | .local _ .vmem, ⟨4, _⟩ => ⟨S2x2x128x64, .f32⟩
  | .local _ .vmem, ⟨5, _⟩ => ⟨S256x512, .f32⟩
  | .local _ .vmem, ⟨6, _⟩ => ⟨S32x8x512, .bf16⟩
  | .local _ .vmem, ⟨7, _⟩ => ⟨S32x8x512, .bf16⟩
  | .local _ .vmem, ⟨8, _⟩ => ⟨S32x8x512, .bf16⟩
  | _, _ => ⟨S2x128x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_1691 : BitVec 32 := 0#32
  let c0_i32_1689 : BitVec 32 := 0#32
  let c1_i32_1690 : BitVec 32 := 1#32
  let v1941 : BitVec 32 := Scalar.muli c0_i32_1689 c1_i32_1690
  let v1942 : BitVec 32 := Scalar.addi c0_i32_1691 v1941
  v1942.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_1691 : BitVec 32 := 0#32
  let c1_i32_1689 : BitVec 32 := 1#32
  let c1_i32_1690 : BitVec 32 := 1#32
  let v1941 : BitVec 32 := Scalar.muli c1_i32_1689 c1_i32_1690
  let v1942 : BitVec 32 := Scalar.addi c0_i32_1691 v1941
  v1942.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_1691 : BitVec 32 := 0#32
  let c2_i32_1689 : BitVec 32 := 2#32
  let c1_i32_1690 : BitVec 32 := 1#32
  let v1941 : BitVec 32 := Scalar.muli c2_i32_1689 c1_i32_1690
  let v1942 : BitVec 32 := Scalar.addi c0_i32_1691 v1941
  v1942.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_1691 : BitVec 32 := 0#32
  let c3_i32_1689 : BitVec 32 := 3#32
  let c1_i32_1690 : BitVec 32 := 1#32
  let v1941 : BitVec 32 := Scalar.muli c3_i32_1689 c1_i32_1690
  let v1942 : BitVec 32 := Scalar.addi c0_i32_1691 v1941
  v1942.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_1691 : BitVec 32 := 0#32
  let c4_i32_1689 : BitVec 32 := 4#32
  let c1_i32_1690 : BitVec 32 := 1#32
  let v1941 : BitVec 32 := Scalar.muli c4_i32_1689 c1_i32_1690
  let v1942 : BitVec 32 := Scalar.addi c0_i32_1691 v1941
  v1942.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_1691 : BitVec 32 := 0#32
  let c5_i32_1689 : BitVec 32 := 5#32
  let c1_i32_1690 : BitVec 32 := 1#32
  let v1941 : BitVec 32 := Scalar.muli c5_i32_1689 c1_i32_1690
  let v1942 : BitVec 32 := Scalar.addi c0_i32_1691 v1941
  v1942.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_1691 : BitVec 32 := 0#32
  let c6_i32_1689 : BitVec 32 := 6#32
  let c1_i32_1690 : BitVec 32 := 1#32
  let v1941 : BitVec 32 := Scalar.muli c6_i32_1689 c1_i32_1690
  let v1942 : BitVec 32 := Scalar.addi c0_i32_1691 v1941
  v1942.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_1691 : BitVec 32 := 0#32
  let c7_i32_1689 : BitVec 32 := 7#32
  let c1_i32_1690 : BitVec 32 := 1#32
  let v1941 : BitVec 32 := Scalar.muli c7_i32_1689 c1_i32_1690
  let v1942 : BitVec 32 := Scalar.addi c0_i32_1691 v1941
  v1942.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_1691 : BitVec 32 := 0#32
  let c8_i32_1689 : BitVec 32 := 8#32
  let c1_i32_1690 : BitVec 32 := 1#32
  let v1941 : BitVec 32 := Scalar.muli c8_i32_1689 c1_i32_1690
  let v1942 : BitVec 32 := Scalar.addi c0_i32_1691 v1941
  v1942.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_1691 : BitVec 32 := 0#32
  let c9_i32_1689 : BitVec 32 := 9#32
  let c1_i32_1690 : BitVec 32 := 1#32
  let v1941 : BitVec 32 := Scalar.muli c9_i32_1689 c1_i32_1690
  let v1942 : BitVec 32 := Scalar.addi c0_i32_1691 v1941
  v1942.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_1691 : BitVec 32 := 0#32
  let c10_i32_1689 : BitVec 32 := 10#32
  let c1_i32_1690 : BitVec 32 := 1#32
  let v1941 : BitVec 32 := Scalar.muli c10_i32_1689 c1_i32_1690
  let v1942 : BitVec 32 := Scalar.addi c0_i32_1691 v1941
  v1942.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_1691 : BitVec 32 := 0#32
  let c11_i32_1689 : BitVec 32 := 11#32
  let c1_i32_1690 : BitVec 32 := 1#32
  let v1941 : BitVec 32 := Scalar.muli c11_i32_1689 c1_i32_1690
  let v1942 : BitVec 32 := Scalar.addi c0_i32_1691 v1941
  v1942.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_1691 : BitVec 32 := 0#32
  let c12_i32_1689 : BitVec 32 := 12#32
  let c1_i32_1690 : BitVec 32 := 1#32
  let v1941 : BitVec 32 := Scalar.muli c12_i32_1689 c1_i32_1690
  let v1942 : BitVec 32 := Scalar.addi c0_i32_1691 v1941
  v1942.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_1691 : BitVec 32 := 0#32
  let c13_i32_1689 : BitVec 32 := 13#32
  let c1_i32_1690 : BitVec 32 := 1#32
  let v1941 : BitVec 32 := Scalar.muli c13_i32_1689 c1_i32_1690
  let v1942 : BitVec 32 := Scalar.addi c0_i32_1691 v1941
  v1942.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_1691 : BitVec 32 := 0#32
  let c14_i32_1689 : BitVec 32 := 14#32
  let c1_i32_1690 : BitVec 32 := 1#32
  let v1941 : BitVec 32 := Scalar.muli c14_i32_1689 c1_i32_1690
  let v1942 : BitVec 32 := Scalar.addi c0_i32_1691 v1941
  v1942.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_1691 : BitVec 32 := 0#32
  let c15_i32_1689 : BitVec 32 := 15#32
  let c1_i32_1690 : BitVec 32 := 1#32
  let v1941 : BitVec 32 := Scalar.muli c15_i32_1689 c1_i32_1690
  let v1942 : BitVec 32 := Scalar.addi c0_i32_1691 v1941
  v1942.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v52 : BitVec 1 := Scalar.cmpi .ne v2 c16_i32
  let v53 : BitVec 32 := Scalar.extui v52
  let c0_i32_17 : BitVec 32 := 0#32
  let v54 : BitVec 1 := Scalar.cmpi .ne v53 c0_i32_17
  v54

def k0_dev17 : Nat :=
  let c0_i32_1691 : BitVec 32 := 0#32
  let c16_i32_1689 : BitVec 32 := 16#32
  let c1_i32_1690 : BitVec 32 := 1#32
  let v1941 : BitVec 32 := Scalar.muli c16_i32_1689 c1_i32_1690
  let v1942 : BitVec 32 := Scalar.addi c0_i32_1691 v1941
  v1942.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v55 : BitVec 1 := Scalar.cmpi .ne v2 c17_i32
  let v56 : BitVec 32 := Scalar.extui v55
  let c0_i32_18 : BitVec 32 := 0#32
  let v57 : BitVec 1 := Scalar.cmpi .ne v56 c0_i32_18
  v57

def k0_dev18 : Nat :=
  let c0_i32_1691 : BitVec 32 := 0#32
  let c17_i32_1689 : BitVec 32 := 17#32
  let c1_i32_1690 : BitVec 32 := 1#32
  let v1941 : BitVec 32 := Scalar.muli c17_i32_1689 c1_i32_1690
  let v1942 : BitVec 32 := Scalar.addi c0_i32_1691 v1941
  v1942.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v58 : BitVec 1 := Scalar.cmpi .ne v2 c18_i32
  let v59 : BitVec 32 := Scalar.extui v58
  let c0_i32_19 : BitVec 32 := 0#32
  let v60 : BitVec 1 := Scalar.cmpi .ne v59 c0_i32_19
  v60

def k0_dev19 : Nat :=
  let c0_i32_1691 : BitVec 32 := 0#32
  let c18_i32_1689 : BitVec 32 := 18#32
  let c1_i32_1690 : BitVec 32 := 1#32
  let v1941 : BitVec 32 := Scalar.muli c18_i32_1689 c1_i32_1690
  let v1942 : BitVec 32 := Scalar.addi c0_i32_1691 v1941
  v1942.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v61 : BitVec 1 := Scalar.cmpi .ne v2 c19_i32
  let v62 : BitVec 32 := Scalar.extui v61
  let c0_i32_20 : BitVec 32 := 0#32
  let v63 : BitVec 1 := Scalar.cmpi .ne v62 c0_i32_20
  v63

def k0_dev20 : Nat :=
  let c0_i32_1691 : BitVec 32 := 0#32
  let c19_i32_1689 : BitVec 32 := 19#32
  let c1_i32_1690 : BitVec 32 := 1#32
  let v1941 : BitVec 32 := Scalar.muli c19_i32_1689 c1_i32_1690
  let v1942 : BitVec 32 := Scalar.addi c0_i32_1691 v1941
  v1942.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v64 : BitVec 1 := Scalar.cmpi .ne v2 c20_i32
  let v65 : BitVec 32 := Scalar.extui v64
  let c0_i32_21 : BitVec 32 := 0#32
  let v66 : BitVec 1 := Scalar.cmpi .ne v65 c0_i32_21
  v66

def k0_dev21 : Nat :=
  let c0_i32_1691 : BitVec 32 := 0#32
  let c20_i32_1689 : BitVec 32 := 20#32
  let c1_i32_1690 : BitVec 32 := 1#32
  let v1941 : BitVec 32 := Scalar.muli c20_i32_1689 c1_i32_1690
  let v1942 : BitVec 32 := Scalar.addi c0_i32_1691 v1941
  v1942.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v67 : BitVec 1 := Scalar.cmpi .ne v2 c21_i32
  let v68 : BitVec 32 := Scalar.extui v67
  let c0_i32_22 : BitVec 32 := 0#32
  let v69 : BitVec 1 := Scalar.cmpi .ne v68 c0_i32_22
  v69

def k0_dev22 : Nat :=
  let c0_i32_1691 : BitVec 32 := 0#32
  let c21_i32_1689 : BitVec 32 := 21#32
  let c1_i32_1690 : BitVec 32 := 1#32
  let v1941 : BitVec 32 := Scalar.muli c21_i32_1689 c1_i32_1690
  let v1942 : BitVec 32 := Scalar.addi c0_i32_1691 v1941
  v1942.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v70 : BitVec 1 := Scalar.cmpi .ne v2 c22_i32
  let v71 : BitVec 32 := Scalar.extui v70
  let c0_i32_23 : BitVec 32 := 0#32
  let v72 : BitVec 1 := Scalar.cmpi .ne v71 c0_i32_23
  v72

def k0_dev23 : Nat :=
  let c0_i32_1691 : BitVec 32 := 0#32
  let c22_i32_1689 : BitVec 32 := 22#32
  let c1_i32_1690 : BitVec 32 := 1#32
  let v1941 : BitVec 32 := Scalar.muli c22_i32_1689 c1_i32_1690
  let v1942 : BitVec 32 := Scalar.addi c0_i32_1691 v1941
  v1942.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v73 : BitVec 1 := Scalar.cmpi .ne v2 c23_i32
  let v74 : BitVec 32 := Scalar.extui v73
  let c0_i32_24 : BitVec 32 := 0#32
  let v75 : BitVec 1 := Scalar.cmpi .ne v74 c0_i32_24
  v75

def k0_dev24 : Nat :=
  let c0_i32_1691 : BitVec 32 := 0#32
  let c23_i32_1689 : BitVec 32 := 23#32
  let c1_i32_1690 : BitVec 32 := 1#32
  let v1941 : BitVec 32 := Scalar.muli c23_i32_1689 c1_i32_1690
  let v1942 : BitVec 32 := Scalar.addi c0_i32_1691 v1941
  v1942.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v76 : BitVec 1 := Scalar.cmpi .ne v2 c24_i32
  let v77 : BitVec 32 := Scalar.extui v76
  let c0_i32_25 : BitVec 32 := 0#32
  let v78 : BitVec 1 := Scalar.cmpi .ne v77 c0_i32_25
  v78

def k0_dev25 : Nat :=
  let c0_i32_1691 : BitVec 32 := 0#32
  let c24_i32_1689 : BitVec 32 := 24#32
  let c1_i32_1690 : BitVec 32 := 1#32
  let v1941 : BitVec 32 := Scalar.muli c24_i32_1689 c1_i32_1690
  let v1942 : BitVec 32 := Scalar.addi c0_i32_1691 v1941
  v1942.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v79 : BitVec 1 := Scalar.cmpi .ne v2 c25_i32
  let v80 : BitVec 32 := Scalar.extui v79
  let c0_i32_26 : BitVec 32 := 0#32
  let v81 : BitVec 1 := Scalar.cmpi .ne v80 c0_i32_26
  v81

def k0_dev26 : Nat :=
  let c0_i32_1691 : BitVec 32 := 0#32
  let c25_i32_1689 : BitVec 32 := 25#32
  let c1_i32_1690 : BitVec 32 := 1#32
  let v1941 : BitVec 32 := Scalar.muli c25_i32_1689 c1_i32_1690
  let v1942 : BitVec 32 := Scalar.addi c0_i32_1691 v1941
  v1942.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v82 : BitVec 1 := Scalar.cmpi .ne v2 c26_i32
  let v83 : BitVec 32 := Scalar.extui v82
  let c0_i32_27 : BitVec 32 := 0#32
  let v84 : BitVec 1 := Scalar.cmpi .ne v83 c0_i32_27
  v84

def k0_dev27 : Nat :=
  let c0_i32_1691 : BitVec 32 := 0#32
  let c26_i32_1689 : BitVec 32 := 26#32
  let c1_i32_1690 : BitVec 32 := 1#32
  let v1941 : BitVec 32 := Scalar.muli c26_i32_1689 c1_i32_1690
  let v1942 : BitVec 32 := Scalar.addi c0_i32_1691 v1941
  v1942.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v85 : BitVec 1 := Scalar.cmpi .ne v2 c27_i32
  let v86 : BitVec 32 := Scalar.extui v85
  let c0_i32_28 : BitVec 32 := 0#32
  let v87 : BitVec 1 := Scalar.cmpi .ne v86 c0_i32_28
  v87

def k0_dev28 : Nat :=
  let c0_i32_1691 : BitVec 32 := 0#32
  let c27_i32_1689 : BitVec 32 := 27#32
  let c1_i32_1690 : BitVec 32 := 1#32
  let v1941 : BitVec 32 := Scalar.muli c27_i32_1689 c1_i32_1690
  let v1942 : BitVec 32 := Scalar.addi c0_i32_1691 v1941
  v1942.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v88 : BitVec 1 := Scalar.cmpi .ne v2 c28_i32
  let v89 : BitVec 32 := Scalar.extui v88
  let c0_i32_29 : BitVec 32 := 0#32
  let v90 : BitVec 1 := Scalar.cmpi .ne v89 c0_i32_29
  v90

def k0_dev29 : Nat :=
  let c0_i32_1691 : BitVec 32 := 0#32
  let c28_i32_1689 : BitVec 32 := 28#32
  let c1_i32_1690 : BitVec 32 := 1#32
  let v1941 : BitVec 32 := Scalar.muli c28_i32_1689 c1_i32_1690
  let v1942 : BitVec 32 := Scalar.addi c0_i32_1691 v1941
  v1942.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v91 : BitVec 1 := Scalar.cmpi .ne v2 c29_i32
  let v92 : BitVec 32 := Scalar.extui v91
  let c0_i32_30 : BitVec 32 := 0#32
  let v93 : BitVec 1 := Scalar.cmpi .ne v92 c0_i32_30
  v93

def k0_dev30 : Nat :=
  let c0_i32_1691 : BitVec 32 := 0#32
  let c29_i32_1689 : BitVec 32 := 29#32
  let c1_i32_1690 : BitVec 32 := 1#32
  let v1941 : BitVec 32 := Scalar.muli c29_i32_1689 c1_i32_1690
  let v1942 : BitVec 32 := Scalar.addi c0_i32_1691 v1941
  v1942.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v94 : BitVec 1 := Scalar.cmpi .ne v2 c30_i32
  let v95 : BitVec 32 := Scalar.extui v94
  let c0_i32_31 : BitVec 32 := 0#32
  let v96 : BitVec 1 := Scalar.cmpi .ne v95 c0_i32_31
  v96

def k0_dev31 : Nat :=
  let c0_i32_1691 : BitVec 32 := 0#32
  let c30_i32_1689 : BitVec 32 := 30#32
  let c1_i32_1690 : BitVec 32 := 1#32
  let v1941 : BitVec 32 := Scalar.muli c30_i32_1689 c1_i32_1690
  let v1942 : BitVec 32 := Scalar.addi c0_i32_1691 v1941
  v1942.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v97 : BitVec 1 := Scalar.cmpi .ne v2 c31_i32
  let v98 : BitVec 32 := Scalar.extui v97
  let c0_i32_32 : BitVec 32 := 0#32
  let v99 : BitVec 1 := Scalar.cmpi .ne v98 c0_i32_32
  v99

def k0_dev32 : Nat :=
  let c0_i32_1691 : BitVec 32 := 0#32
  let c31_i32_1689 : BitVec 32 := 31#32
  let c1_i32_1690 : BitVec 32 := 1#32
  let v1941 : BitVec 32 := Scalar.muli c31_i32_1689 c1_i32_1690
  let v1942 : BitVec 32 := Scalar.addi c0_i32_1691 v1941
  v1942.toNat
def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_188 : BitVec 32 := 0#32
  let c0_i32_189 : BitVec 32 := 0#32
  ![v2.toNat, 0, 0]
def k0_off3 (d0 : Dev nD) (c18_i32_33 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v100 : BitVec 32 := Scalar.addi v2 c18_i32_33
  let c32_i32_34 : BitVec 32 := 32#32
  let v101 : BitVec 32 := Scalar.remsi v100 c32_i32_34
  let c0_i32_190 : BitVec 32 := 0#32
  let c0_i32_191 : BitVec 32 := 0#32
  ![v101.toNat, 0, 0]
def k0_dev33 (d0 : Dev nD) : Nat :=
  let c0_i32_187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_33 : BitVec 32 := 18#32
  let v100 : BitVec 32 := Scalar.addi v2 c18_i32_33
  let c32_i32_34 : BitVec 32 := 32#32
  let v101 : BitVec 32 := Scalar.remsi v100 c32_i32_34
  let c1_i32_186 : BitVec 32 := 1#32
  let v434 : BitVec 32 := Scalar.muli v101 c1_i32_186
  let v435 : BitVec 32 := Scalar.addi c0_i32_187 v434
  v435.toNat
def k0_dev34 (d0 : Dev nD) : Nat :=
  let c0_i32_194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_35 : BitVec 32 := 14#32
  let v102 : BitVec 32 := Scalar.addi v2 c14_i32_35
  let c32_i32_36 : BitVec 32 := 32#32
  let v103 : BitVec 32 := Scalar.remsi v102 c32_i32_36
  let c1_i32_193 : BitVec 32 := 1#32
  let v444 : BitVec 32 := Scalar.muli v103 c1_i32_193
  let v445 : BitVec 32 := Scalar.addi c0_i32_194 v444
  v445.toNat
def k0_dev35 (d0 : Dev nD) : Nat :=
  let c0_i32_201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_37 : BitVec 32 := 22#32
  let v104 : BitVec 32 := Scalar.addi v2 c22_i32_37
  let c32_i32_38 : BitVec 32 := 32#32
  let v105 : BitVec 32 := Scalar.remsi v104 c32_i32_38
  let c1_i32_200 : BitVec 32 := 1#32
  let v454 : BitVec 32 := Scalar.muli v105 c1_i32_200
  let v455 : BitVec 32 := Scalar.addi c0_i32_201 v454
  v455.toNat
def k0_dev36 (d0 : Dev nD) : Nat :=
  let c0_i32_208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_39 : BitVec 32 := 10#32
  let v106 : BitVec 32 := Scalar.addi v2 c10_i32_39
  let c32_i32_40 : BitVec 32 := 32#32
  let v107 : BitVec 32 := Scalar.remsi v106 c32_i32_40
  let c1_i32_207 : BitVec 32 := 1#32
  let v464 : BitVec 32 := Scalar.muli v107 c1_i32_207
  let v465 : BitVec 32 := Scalar.addi c0_i32_208 v464
  v465.toNat
def k0_dev37 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_41 : BitVec 32 := 19#32
  let v108 : BitVec 32 := Scalar.addi v2 c19_i32_41
  let c32_i32_42 : BitVec 32 := 32#32
  let v109 : BitVec 32 := Scalar.remsi v108 c32_i32_42
  let c1_i32_214 : BitVec 32 := 1#32
  let v474 : BitVec 32 := Scalar.muli v109 c1_i32_214
  let v475 : BitVec 32 := Scalar.addi c0_i32_215 v474
  v475.toNat
def k0_dev38 (d0 : Dev nD) : Nat :=
  let c0_i32_222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_43 : BitVec 32 := 13#32
  let v110 : BitVec 32 := Scalar.addi v2 c13_i32_43
  let c32_i32_44 : BitVec 32 := 32#32
  let v111 : BitVec 32 := Scalar.remsi v110 c32_i32_44
  let c1_i32_221 : BitVec 32 := 1#32
  let v484 : BitVec 32 := Scalar.muli v111 c1_i32_221
  let v485 : BitVec 32 := Scalar.addi c0_i32_222 v484
  v485.toNat
def k0_dev39 (d0 : Dev nD) : Nat :=
  let c0_i32_229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_45 : BitVec 32 := 21#32
  let v112 : BitVec 32 := Scalar.addi v2 c21_i32_45
  let c32_i32_46 : BitVec 32 := 32#32
  let v113 : BitVec 32 := Scalar.remsi v112 c32_i32_46
  let c1_i32_228 : BitVec 32 := 1#32
  let v494 : BitVec 32 := Scalar.muli v113 c1_i32_228
  let v495 : BitVec 32 := Scalar.addi c0_i32_229 v494
  v495.toNat
def k0_dev40 (d0 : Dev nD) : Nat :=
  let c0_i32_236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_47 : BitVec 32 := 11#32
  let v114 : BitVec 32 := Scalar.addi v2 c11_i32_47
  let c32_i32_48 : BitVec 32 := 32#32
  let v115 : BitVec 32 := Scalar.remsi v114 c32_i32_48
  let c1_i32_235 : BitVec 32 := 1#32
  let v504 : BitVec 32 := Scalar.muli v115 c1_i32_235
  let v505 : BitVec 32 := Scalar.addi c0_i32_236 v504
  v505.toNat
def k0_dev41 (d0 : Dev nD) : Nat :=
  let c0_i32_243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_49 : BitVec 32 := 20#32
  let v116 : BitVec 32 := Scalar.addi v2 c20_i32_49
  let c32_i32_50 : BitVec 32 := 32#32
  let v117 : BitVec 32 := Scalar.remsi v116 c32_i32_50
  let c1_i32_242 : BitVec 32 := 1#32
  let v514 : BitVec 32 := Scalar.muli v117 c1_i32_242
  let v515 : BitVec 32 := Scalar.addi c0_i32_243 v514
  v515.toNat
def k0_dev42 (d0 : Dev nD) : Nat :=
  let c0_i32_250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_51 : BitVec 32 := 12#32
  let v118 : BitVec 32 := Scalar.addi v2 c12_i32_51
  let c32_i32_52 : BitVec 32 := 32#32
  let v119 : BitVec 32 := Scalar.remsi v118 c32_i32_52
  let c1_i32_249 : BitVec 32 := 1#32
  let v524 : BitVec 32 := Scalar.muli v119 c1_i32_249
  let v525 : BitVec 32 := Scalar.addi c0_i32_250 v524
  v525.toNat
def k0_dev43 (d0 : Dev nD) : Nat :=
  let c0_i32_257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_53 : BitVec 32 := 26#32
  let v120 : BitVec 32 := Scalar.addi v2 c26_i32_53
  let c32_i32_54 : BitVec 32 := 32#32
  let v121 : BitVec 32 := Scalar.remsi v120 c32_i32_54
  let c1_i32_256 : BitVec 32 := 1#32
  let v534 : BitVec 32 := Scalar.muli v121 c1_i32_256
  let v535 : BitVec 32 := Scalar.addi c0_i32_257 v534
  v535.toNat
def k0_dev44 (d0 : Dev nD) : Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_55 : BitVec 32 := 6#32
  let v122 : BitVec 32 := Scalar.addi v2 c6_i32_55
  let c32_i32_56 : BitVec 32 := 32#32
  let v123 : BitVec 32 := Scalar.remsi v122 c32_i32_56
  let c1_i32_263 : BitVec 32 := 1#32
  let v544 : BitVec 32 := Scalar.muli v123 c1_i32_263
  let v545 : BitVec 32 := Scalar.addi c0_i32_264 v544
  v545.toNat
def k0_dev45 (d0 : Dev nD) : Nat :=
  let c0_i32_271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_57 : BitVec 32 := 27#32
  let v124 : BitVec 32 := Scalar.addi v2 c27_i32_57
  let c32_i32_58 : BitVec 32 := 32#32
  let v125 : BitVec 32 := Scalar.remsi v124 c32_i32_58
  let c1_i32_270 : BitVec 32 := 1#32
  let v554 : BitVec 32 := Scalar.muli v125 c1_i32_270
  let v555 : BitVec 32 := Scalar.addi c0_i32_271 v554
  v555.toNat
def k0_dev46 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_59 : BitVec 32 := 17#32
  let v126 : BitVec 32 := Scalar.addi v2 c17_i32_59
  let c32_i32_60 : BitVec 32 := 32#32
  let v127 : BitVec 32 := Scalar.remsi v126 c32_i32_60
  let c1_i32_277 : BitVec 32 := 1#32
  let v564 : BitVec 32 := Scalar.muli v127 c1_i32_277
  let v565 : BitVec 32 := Scalar.addi c0_i32_278 v564
  v565.toNat
def k0_dev47 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_61 : BitVec 32 := 15#32
  let v128 : BitVec 32 := Scalar.addi v2 c15_i32_61
  let c32_i32_62 : BitVec 32 := 32#32
  let v129 : BitVec 32 := Scalar.remsi v128 c32_i32_62
  let c1_i32_284 : BitVec 32 := 1#32
  let v574 : BitVec 32 := Scalar.muli v129 c1_i32_284
  let v575 : BitVec 32 := Scalar.addi c0_i32_285 v574
  v575.toNat
def k0_dev48 (d0 : Dev nD) : Nat :=
  let c0_i32_292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_63 : BitVec 32 := 5#32
  let v130 : BitVec 32 := Scalar.addi v2 c5_i32_63
  let c32_i32_64 : BitVec 32 := 32#32
  let v131 : BitVec 32 := Scalar.remsi v130 c32_i32_64
  let c1_i32_291 : BitVec 32 := 1#32
  let v584 : BitVec 32 := Scalar.muli v131 c1_i32_291
  let v585 : BitVec 32 := Scalar.addi c0_i32_292 v584
  v585.toNat
def k0_dev49 (d0 : Dev nD) : Nat :=
  let c0_i32_299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_65 : BitVec 32 := 30#32
  let v132 : BitVec 32 := Scalar.addi v2 c30_i32_65
  let c32_i32_66 : BitVec 32 := 32#32
  let v133 : BitVec 32 := Scalar.remsi v132 c32_i32_66
  let c1_i32_298 : BitVec 32 := 1#32
  let v594 : BitVec 32 := Scalar.muli v133 c1_i32_298
  let v595 : BitVec 32 := Scalar.addi c0_i32_299 v594
  v595.toNat
def k0_dev50 (d0 : Dev nD) : Nat :=
  let c0_i32_306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_67 : BitVec 32 := 2#32
  let v134 : BitVec 32 := Scalar.addi v2 c2_i32_67
  let c32_i32_68 : BitVec 32 := 32#32
  let v135 : BitVec 32 := Scalar.remsi v134 c32_i32_68
  let c1_i32_305 : BitVec 32 := 1#32
  let v604 : BitVec 32 := Scalar.muli v135 c1_i32_305
  let v605 : BitVec 32 := Scalar.addi c0_i32_306 v604
  v605.toNat
def k0_dev51 (d0 : Dev nD) : Nat :=
  let c0_i32_313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_69 : BitVec 32 := 29#32
  let v136 : BitVec 32 := Scalar.addi v2 c29_i32_69
  let c32_i32_70 : BitVec 32 := 32#32
  let v137 : BitVec 32 := Scalar.remsi v136 c32_i32_70
  let c1_i32_312 : BitVec 32 := 1#32
  let v614 : BitVec 32 := Scalar.muli v137 c1_i32_312
  let v615 : BitVec 32 := Scalar.addi c0_i32_313 v614
  v615.toNat
def k0_dev52 (d0 : Dev nD) : Nat :=
  let c0_i32_320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_71 : BitVec 32 := 3#32
  let v138 : BitVec 32 := Scalar.addi v2 c3_i32_71
  let c32_i32_72 : BitVec 32 := 32#32
  let v139 : BitVec 32 := Scalar.remsi v138 c32_i32_72
  let c1_i32_319 : BitVec 32 := 1#32
  let v624 : BitVec 32 := Scalar.muli v139 c1_i32_319
  let v625 : BitVec 32 := Scalar.addi c0_i32_320 v624
  v625.toNat
def k0_dev53 (d0 : Dev nD) : Nat :=
  let c0_i32_327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_73 : BitVec 32 := 23#32
  let v140 : BitVec 32 := Scalar.addi v2 c23_i32_73
  let c32_i32_74 : BitVec 32 := 32#32
  let v141 : BitVec 32 := Scalar.remsi v140 c32_i32_74
  let c1_i32_326 : BitVec 32 := 1#32
  let v634 : BitVec 32 := Scalar.muli v141 c1_i32_326
  let v635 : BitVec 32 := Scalar.addi c0_i32_327 v634
  v635.toNat
def k0_dev54 (d0 : Dev nD) : Nat :=
  let c0_i32_334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_75 : BitVec 32 := 9#32
  let v142 : BitVec 32 := Scalar.addi v2 c9_i32_75
  let c32_i32_76 : BitVec 32 := 32#32
  let v143 : BitVec 32 := Scalar.remsi v142 c32_i32_76
  let c1_i32_333 : BitVec 32 := 1#32
  let v644 : BitVec 32 := Scalar.muli v143 c1_i32_333
  let v645 : BitVec 32 := Scalar.addi c0_i32_334 v644
  v645.toNat
def k0_dev55 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_77 : BitVec 32 := 28#32
  let v144 : BitVec 32 := Scalar.addi v2 c28_i32_77
  let c32_i32_78 : BitVec 32 := 32#32
  let v145 : BitVec 32 := Scalar.remsi v144 c32_i32_78
  let c1_i32_340 : BitVec 32 := 1#32
  let v654 : BitVec 32 := Scalar.muli v145 c1_i32_340
  let v655 : BitVec 32 := Scalar.addi c0_i32_341 v654
  v655.toNat
def k0_dev56 (d0 : Dev nD) : Nat :=
  let c0_i32_348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_79 : BitVec 32 := 4#32
  let v146 : BitVec 32 := Scalar.addi v2 c4_i32_79
  let c32_i32_80 : BitVec 32 := 32#32
  let v147 : BitVec 32 := Scalar.remsi v146 c32_i32_80
  let c1_i32_347 : BitVec 32 := 1#32
  let v664 : BitVec 32 := Scalar.muli v147 c1_i32_347
  let v665 : BitVec 32 := Scalar.addi c0_i32_348 v664
  v665.toNat
def k0_dev57 (d0 : Dev nD) : Nat :=
  let c0_i32_355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_81 : BitVec 32 := 25#32
  let v148 : BitVec 32 := Scalar.addi v2 c25_i32_81
  let c32_i32_82 : BitVec 32 := 32#32
  let v149 : BitVec 32 := Scalar.remsi v148 c32_i32_82
  let c1_i32_354 : BitVec 32 := 1#32
  let v674 : BitVec 32 := Scalar.muli v149 c1_i32_354
  let v675 : BitVec 32 := Scalar.addi c0_i32_355 v674
  v675.toNat
def k0_dev58 (d0 : Dev nD) : Nat :=
  let c0_i32_362 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_83 : BitVec 32 := 7#32
  let v150 : BitVec 32 := Scalar.addi v2 c7_i32_83
  let c32_i32_84 : BitVec 32 := 32#32
  let v151 : BitVec 32 := Scalar.remsi v150 c32_i32_84
  let c1_i32_361 : BitVec 32 := 1#32
  let v684 : BitVec 32 := Scalar.muli v151 c1_i32_361
  let v685 : BitVec 32 := Scalar.addi c0_i32_362 v684
  v685.toNat
def k0_dev59 (d0 : Dev nD) : Nat :=
  let c0_i32_369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_85 : BitVec 32 := 16#32
  let v152 : BitVec 32 := Scalar.addi v2 c16_i32_85
  let c32_i32_86 : BitVec 32 := 32#32
  let v153 : BitVec 32 := Scalar.remsi v152 c32_i32_86
  let c1_i32_368 : BitVec 32 := 1#32
  let v694 : BitVec 32 := Scalar.muli v153 c1_i32_368
  let v695 : BitVec 32 := Scalar.addi c0_i32_369 v694
  v695.toNat
def k0_dev60 (d0 : Dev nD) : Nat :=
  let c0_i32_376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_87 : BitVec 32 := 24#32
  let v154 : BitVec 32 := Scalar.addi v2 c24_i32_87
  let c32_i32_88 : BitVec 32 := 32#32
  let v155 : BitVec 32 := Scalar.remsi v154 c32_i32_88
  let c1_i32_375 : BitVec 32 := 1#32
  let v704 : BitVec 32 := Scalar.muli v155 c1_i32_375
  let v705 : BitVec 32 := Scalar.addi c0_i32_376 v704
  v705.toNat
def k0_dev61 (d0 : Dev nD) : Nat :=
  let c0_i32_383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_89 : BitVec 32 := 8#32
  let v156 : BitVec 32 := Scalar.addi v2 c8_i32_89
  let c32_i32_90 : BitVec 32 := 32#32
  let v157 : BitVec 32 := Scalar.remsi v156 c32_i32_90
  let c1_i32_382 : BitVec 32 := 1#32
  let v714 : BitVec 32 := Scalar.muli v157 c1_i32_382
  let v715 : BitVec 32 := Scalar.addi c0_i32_383 v714
  v715.toNat
def k0_dev62 (d0 : Dev nD) : Nat :=
  let c0_i32_390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_91 : BitVec 32 := 31#32
  let v158 : BitVec 32 := Scalar.addi v2 c31_i32_91
  let c32_i32_92 : BitVec 32 := 32#32
  let v159 : BitVec 32 := Scalar.remsi v158 c32_i32_92
  let c1_i32_389 : BitVec 32 := 1#32
  let v724 : BitVec 32 := Scalar.muli v159 c1_i32_389
  let v725 : BitVec 32 := Scalar.addi c0_i32_390 v724
  v725.toNat
def k0_dev63 (d0 : Dev nD) : Nat :=
  let c0_i32_397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_93 : BitVec 32 := 1#32
  let v160 : BitVec 32 := Scalar.addi v2 c1_i32_93
  let c32_i32_94 : BitVec 32 := 32#32
  let v161 : BitVec 32 := Scalar.remsi v160 c32_i32_94
  let c1_i32_396 : BitVec 32 := 1#32
  let v734 : BitVec 32 := Scalar.muli v161 c1_i32_396
  let v735 : BitVec 32 := Scalar.addi c0_i32_397 v734
  v735.toNat
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v744 : Index := Scalar.indexCast v2
  let c0_402 : Index := 0#32
  let c0_403 : Index := 0#32
  ![v744.toNat, 0, 0]
def k0_off5 (d0 : Dev nD) (c18_i32_33 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v100 : BitVec 32 := Scalar.addi v2 c18_i32_33
  let c32_i32_34 : BitVec 32 := 32#32
  let v101 : BitVec 32 := Scalar.remsi v100 c32_i32_34
  ![v101.toNat]
def k0_dev64 (d0 : Dev nD) : Nat :=
  let c0_i32_631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_33 : BitVec 32 := 18#32
  let v100 : BitVec 32 := Scalar.addi v2 c18_i32_33
  let c32_i32_34 : BitVec 32 := 32#32
  let v101 : BitVec 32 := Scalar.remsi v100 c32_i32_34
  let c1_i32_630 : BitVec 32 := 1#32
  let v1007 : BitVec 32 := Scalar.muli v101 c1_i32_630
  let v1008 : BitVec 32 := Scalar.addi c0_i32_631 v1007
  v1008.toNat
def k0_dev65 (d0 : Dev nD) : Nat :=
  let c0_i32_638 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_35 : BitVec 32 := 14#32
  let v102 : BitVec 32 := Scalar.addi v2 c14_i32_35
  let c32_i32_36 : BitVec 32 := 32#32
  let v103 : BitVec 32 := Scalar.remsi v102 c32_i32_36
  let c1_i32_637 : BitVec 32 := 1#32
  let v1017 : BitVec 32 := Scalar.muli v103 c1_i32_637
  let v1018 : BitVec 32 := Scalar.addi c0_i32_638 v1017
  v1018.toNat
def k0_dev66 (d0 : Dev nD) : Nat :=
  let c0_i32_645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_37 : BitVec 32 := 22#32
  let v104 : BitVec 32 := Scalar.addi v2 c22_i32_37
  let c32_i32_38 : BitVec 32 := 32#32
  let v105 : BitVec 32 := Scalar.remsi v104 c32_i32_38
  let c1_i32_644 : BitVec 32 := 1#32
  let v1027 : BitVec 32 := Scalar.muli v105 c1_i32_644
  let v1028 : BitVec 32 := Scalar.addi c0_i32_645 v1027
  v1028.toNat
def k0_dev67 (d0 : Dev nD) : Nat :=
  let c0_i32_652 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_39 : BitVec 32 := 10#32
  let v106 : BitVec 32 := Scalar.addi v2 c10_i32_39
  let c32_i32_40 : BitVec 32 := 32#32
  let v107 : BitVec 32 := Scalar.remsi v106 c32_i32_40
  let c1_i32_651 : BitVec 32 := 1#32
  let v1037 : BitVec 32 := Scalar.muli v107 c1_i32_651
  let v1038 : BitVec 32 := Scalar.addi c0_i32_652 v1037
  v1038.toNat
def k0_dev68 (d0 : Dev nD) : Nat :=
  let c0_i32_659 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_41 : BitVec 32 := 19#32
  let v108 : BitVec 32 := Scalar.addi v2 c19_i32_41
  let c32_i32_42 : BitVec 32 := 32#32
  let v109 : BitVec 32 := Scalar.remsi v108 c32_i32_42
  let c1_i32_658 : BitVec 32 := 1#32
  let v1047 : BitVec 32 := Scalar.muli v109 c1_i32_658
  let v1048 : BitVec 32 := Scalar.addi c0_i32_659 v1047
  v1048.toNat
def k0_dev69 (d0 : Dev nD) : Nat :=
  let c0_i32_666 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_43 : BitVec 32 := 13#32
  let v110 : BitVec 32 := Scalar.addi v2 c13_i32_43
  let c32_i32_44 : BitVec 32 := 32#32
  let v111 : BitVec 32 := Scalar.remsi v110 c32_i32_44
  let c1_i32_665 : BitVec 32 := 1#32
  let v1057 : BitVec 32 := Scalar.muli v111 c1_i32_665
  let v1058 : BitVec 32 := Scalar.addi c0_i32_666 v1057
  v1058.toNat
def k0_dev70 (d0 : Dev nD) : Nat :=
  let c0_i32_673 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_45 : BitVec 32 := 21#32
  let v112 : BitVec 32 := Scalar.addi v2 c21_i32_45
  let c32_i32_46 : BitVec 32 := 32#32
  let v113 : BitVec 32 := Scalar.remsi v112 c32_i32_46
  let c1_i32_672 : BitVec 32 := 1#32
  let v1067 : BitVec 32 := Scalar.muli v113 c1_i32_672
  let v1068 : BitVec 32 := Scalar.addi c0_i32_673 v1067
  v1068.toNat
def k0_dev71 (d0 : Dev nD) : Nat :=
  let c0_i32_680 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_47 : BitVec 32 := 11#32
  let v114 : BitVec 32 := Scalar.addi v2 c11_i32_47
  let c32_i32_48 : BitVec 32 := 32#32
  let v115 : BitVec 32 := Scalar.remsi v114 c32_i32_48
  let c1_i32_679 : BitVec 32 := 1#32
  let v1077 : BitVec 32 := Scalar.muli v115 c1_i32_679
  let v1078 : BitVec 32 := Scalar.addi c0_i32_680 v1077
  v1078.toNat
def k0_dev72 (d0 : Dev nD) : Nat :=
  let c0_i32_687 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_49 : BitVec 32 := 20#32
  let v116 : BitVec 32 := Scalar.addi v2 c20_i32_49
  let c32_i32_50 : BitVec 32 := 32#32
  let v117 : BitVec 32 := Scalar.remsi v116 c32_i32_50
  let c1_i32_686 : BitVec 32 := 1#32
  let v1087 : BitVec 32 := Scalar.muli v117 c1_i32_686
  let v1088 : BitVec 32 := Scalar.addi c0_i32_687 v1087
  v1088.toNat
def k0_dev73 (d0 : Dev nD) : Nat :=
  let c0_i32_694 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_51 : BitVec 32 := 12#32
  let v118 : BitVec 32 := Scalar.addi v2 c12_i32_51
  let c32_i32_52 : BitVec 32 := 32#32
  let v119 : BitVec 32 := Scalar.remsi v118 c32_i32_52
  let c1_i32_693 : BitVec 32 := 1#32
  let v1097 : BitVec 32 := Scalar.muli v119 c1_i32_693
  let v1098 : BitVec 32 := Scalar.addi c0_i32_694 v1097
  v1098.toNat
def k0_dev74 (d0 : Dev nD) : Nat :=
  let c0_i32_701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_53 : BitVec 32 := 26#32
  let v120 : BitVec 32 := Scalar.addi v2 c26_i32_53
  let c32_i32_54 : BitVec 32 := 32#32
  let v121 : BitVec 32 := Scalar.remsi v120 c32_i32_54
  let c1_i32_700 : BitVec 32 := 1#32
  let v1107 : BitVec 32 := Scalar.muli v121 c1_i32_700
  let v1108 : BitVec 32 := Scalar.addi c0_i32_701 v1107
  v1108.toNat
def k0_dev75 (d0 : Dev nD) : Nat :=
  let c0_i32_708 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_55 : BitVec 32 := 6#32
  let v122 : BitVec 32 := Scalar.addi v2 c6_i32_55
  let c32_i32_56 : BitVec 32 := 32#32
  let v123 : BitVec 32 := Scalar.remsi v122 c32_i32_56
  let c1_i32_707 : BitVec 32 := 1#32
  let v1117 : BitVec 32 := Scalar.muli v123 c1_i32_707
  let v1118 : BitVec 32 := Scalar.addi c0_i32_708 v1117
  v1118.toNat
def k0_dev76 (d0 : Dev nD) : Nat :=
  let c0_i32_715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_57 : BitVec 32 := 27#32
  let v124 : BitVec 32 := Scalar.addi v2 c27_i32_57
  let c32_i32_58 : BitVec 32 := 32#32
  let v125 : BitVec 32 := Scalar.remsi v124 c32_i32_58
  let c1_i32_714 : BitVec 32 := 1#32
  let v1127 : BitVec 32 := Scalar.muli v125 c1_i32_714
  let v1128 : BitVec 32 := Scalar.addi c0_i32_715 v1127
  v1128.toNat
def k0_dev77 (d0 : Dev nD) : Nat :=
  let c0_i32_722 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_59 : BitVec 32 := 17#32
  let v126 : BitVec 32 := Scalar.addi v2 c17_i32_59
  let c32_i32_60 : BitVec 32 := 32#32
  let v127 : BitVec 32 := Scalar.remsi v126 c32_i32_60
  let c1_i32_721 : BitVec 32 := 1#32
  let v1137 : BitVec 32 := Scalar.muli v127 c1_i32_721
  let v1138 : BitVec 32 := Scalar.addi c0_i32_722 v1137
  v1138.toNat
def k0_dev78 (d0 : Dev nD) : Nat :=
  let c0_i32_729 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_61 : BitVec 32 := 15#32
  let v128 : BitVec 32 := Scalar.addi v2 c15_i32_61
  let c32_i32_62 : BitVec 32 := 32#32
  let v129 : BitVec 32 := Scalar.remsi v128 c32_i32_62
  let c1_i32_728 : BitVec 32 := 1#32
  let v1147 : BitVec 32 := Scalar.muli v129 c1_i32_728
  let v1148 : BitVec 32 := Scalar.addi c0_i32_729 v1147
  v1148.toNat
def k0_dev79 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_63 : BitVec 32 := 5#32
  let v130 : BitVec 32 := Scalar.addi v2 c5_i32_63
  let c32_i32_64 : BitVec 32 := 32#32
  let v131 : BitVec 32 := Scalar.remsi v130 c32_i32_64
  let c1_i32_735 : BitVec 32 := 1#32
  let v1157 : BitVec 32 := Scalar.muli v131 c1_i32_735
  let v1158 : BitVec 32 := Scalar.addi c0_i32_736 v1157
  v1158.toNat
def k0_dev80 (d0 : Dev nD) : Nat :=
  let c0_i32_743 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_65 : BitVec 32 := 30#32
  let v132 : BitVec 32 := Scalar.addi v2 c30_i32_65
  let c32_i32_66 : BitVec 32 := 32#32
  let v133 : BitVec 32 := Scalar.remsi v132 c32_i32_66
  let c1_i32_742 : BitVec 32 := 1#32
  let v1167 : BitVec 32 := Scalar.muli v133 c1_i32_742
  let v1168 : BitVec 32 := Scalar.addi c0_i32_743 v1167
  v1168.toNat
def k0_dev81 (d0 : Dev nD) : Nat :=
  let c0_i32_750 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_67 : BitVec 32 := 2#32
  let v134 : BitVec 32 := Scalar.addi v2 c2_i32_67
  let c32_i32_68 : BitVec 32 := 32#32
  let v135 : BitVec 32 := Scalar.remsi v134 c32_i32_68
  let c1_i32_749 : BitVec 32 := 1#32
  let v1177 : BitVec 32 := Scalar.muli v135 c1_i32_749
  let v1178 : BitVec 32 := Scalar.addi c0_i32_750 v1177
  v1178.toNat
def k0_dev82 (d0 : Dev nD) : Nat :=
  let c0_i32_757 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_69 : BitVec 32 := 29#32
  let v136 : BitVec 32 := Scalar.addi v2 c29_i32_69
  let c32_i32_70 : BitVec 32 := 32#32
  let v137 : BitVec 32 := Scalar.remsi v136 c32_i32_70
  let c1_i32_756 : BitVec 32 := 1#32
  let v1187 : BitVec 32 := Scalar.muli v137 c1_i32_756
  let v1188 : BitVec 32 := Scalar.addi c0_i32_757 v1187
  v1188.toNat
def k0_dev83 (d0 : Dev nD) : Nat :=
  let c0_i32_764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_71 : BitVec 32 := 3#32
  let v138 : BitVec 32 := Scalar.addi v2 c3_i32_71
  let c32_i32_72 : BitVec 32 := 32#32
  let v139 : BitVec 32 := Scalar.remsi v138 c32_i32_72
  let c1_i32_763 : BitVec 32 := 1#32
  let v1197 : BitVec 32 := Scalar.muli v139 c1_i32_763
  let v1198 : BitVec 32 := Scalar.addi c0_i32_764 v1197
  v1198.toNat
def k0_dev84 (d0 : Dev nD) : Nat :=
  let c0_i32_771 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_73 : BitVec 32 := 23#32
  let v140 : BitVec 32 := Scalar.addi v2 c23_i32_73
  let c32_i32_74 : BitVec 32 := 32#32
  let v141 : BitVec 32 := Scalar.remsi v140 c32_i32_74
  let c1_i32_770 : BitVec 32 := 1#32
  let v1207 : BitVec 32 := Scalar.muli v141 c1_i32_770
  let v1208 : BitVec 32 := Scalar.addi c0_i32_771 v1207
  v1208.toNat
def k0_dev85 (d0 : Dev nD) : Nat :=
  let c0_i32_778 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_75 : BitVec 32 := 9#32
  let v142 : BitVec 32 := Scalar.addi v2 c9_i32_75
  let c32_i32_76 : BitVec 32 := 32#32
  let v143 : BitVec 32 := Scalar.remsi v142 c32_i32_76
  let c1_i32_777 : BitVec 32 := 1#32
  let v1217 : BitVec 32 := Scalar.muli v143 c1_i32_777
  let v1218 : BitVec 32 := Scalar.addi c0_i32_778 v1217
  v1218.toNat
def k0_dev86 (d0 : Dev nD) : Nat :=
  let c0_i32_785 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_77 : BitVec 32 := 28#32
  let v144 : BitVec 32 := Scalar.addi v2 c28_i32_77
  let c32_i32_78 : BitVec 32 := 32#32
  let v145 : BitVec 32 := Scalar.remsi v144 c32_i32_78
  let c1_i32_784 : BitVec 32 := 1#32
  let v1227 : BitVec 32 := Scalar.muli v145 c1_i32_784
  let v1228 : BitVec 32 := Scalar.addi c0_i32_785 v1227
  v1228.toNat
def k0_dev87 (d0 : Dev nD) : Nat :=
  let c0_i32_792 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_79 : BitVec 32 := 4#32
  let v146 : BitVec 32 := Scalar.addi v2 c4_i32_79
  let c32_i32_80 : BitVec 32 := 32#32
  let v147 : BitVec 32 := Scalar.remsi v146 c32_i32_80
  let c1_i32_791 : BitVec 32 := 1#32
  let v1237 : BitVec 32 := Scalar.muli v147 c1_i32_791
  let v1238 : BitVec 32 := Scalar.addi c0_i32_792 v1237
  v1238.toNat
def k0_dev88 (d0 : Dev nD) : Nat :=
  let c0_i32_799 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_81 : BitVec 32 := 25#32
  let v148 : BitVec 32 := Scalar.addi v2 c25_i32_81
  let c32_i32_82 : BitVec 32 := 32#32
  let v149 : BitVec 32 := Scalar.remsi v148 c32_i32_82
  let c1_i32_798 : BitVec 32 := 1#32
  let v1247 : BitVec 32 := Scalar.muli v149 c1_i32_798
  let v1248 : BitVec 32 := Scalar.addi c0_i32_799 v1247
  v1248.toNat
def k0_dev89 (d0 : Dev nD) : Nat :=
  let c0_i32_806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_83 : BitVec 32 := 7#32
  let v150 : BitVec 32 := Scalar.addi v2 c7_i32_83
  let c32_i32_84 : BitVec 32 := 32#32
  let v151 : BitVec 32 := Scalar.remsi v150 c32_i32_84
  let c1_i32_805 : BitVec 32 := 1#32
  let v1257 : BitVec 32 := Scalar.muli v151 c1_i32_805
  let v1258 : BitVec 32 := Scalar.addi c0_i32_806 v1257
  v1258.toNat
def k0_dev90 (d0 : Dev nD) : Nat :=
  let c0_i32_813 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_85 : BitVec 32 := 16#32
  let v152 : BitVec 32 := Scalar.addi v2 c16_i32_85
  let c32_i32_86 : BitVec 32 := 32#32
  let v153 : BitVec 32 := Scalar.remsi v152 c32_i32_86
  let c1_i32_812 : BitVec 32 := 1#32
  let v1267 : BitVec 32 := Scalar.muli v153 c1_i32_812
  let v1268 : BitVec 32 := Scalar.addi c0_i32_813 v1267
  v1268.toNat
def k0_dev91 (d0 : Dev nD) : Nat :=
  let c0_i32_820 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_87 : BitVec 32 := 24#32
  let v154 : BitVec 32 := Scalar.addi v2 c24_i32_87
  let c32_i32_88 : BitVec 32 := 32#32
  let v155 : BitVec 32 := Scalar.remsi v154 c32_i32_88
  let c1_i32_819 : BitVec 32 := 1#32
  let v1277 : BitVec 32 := Scalar.muli v155 c1_i32_819
  let v1278 : BitVec 32 := Scalar.addi c0_i32_820 v1277
  v1278.toNat
def k0_dev92 (d0 : Dev nD) : Nat :=
  let c0_i32_827 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_89 : BitVec 32 := 8#32
  let v156 : BitVec 32 := Scalar.addi v2 c8_i32_89
  let c32_i32_90 : BitVec 32 := 32#32
  let v157 : BitVec 32 := Scalar.remsi v156 c32_i32_90
  let c1_i32_826 : BitVec 32 := 1#32
  let v1287 : BitVec 32 := Scalar.muli v157 c1_i32_826
  let v1288 : BitVec 32 := Scalar.addi c0_i32_827 v1287
  v1288.toNat
def k0_dev93 (d0 : Dev nD) : Nat :=
  let c0_i32_834 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_91 : BitVec 32 := 31#32
  let v158 : BitVec 32 := Scalar.addi v2 c31_i32_91
  let c32_i32_92 : BitVec 32 := 32#32
  let v159 : BitVec 32 := Scalar.remsi v158 c32_i32_92
  let c1_i32_833 : BitVec 32 := 1#32
  let v1297 : BitVec 32 := Scalar.muli v159 c1_i32_833
  let v1298 : BitVec 32 := Scalar.addi c0_i32_834 v1297
  v1298.toNat
def k0_dev94 (d0 : Dev nD) : Nat :=
  let c0_i32_841 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_93 : BitVec 32 := 1#32
  let v160 : BitVec 32 := Scalar.addi v2 c1_i32_93
  let c32_i32_94 : BitVec 32 := 32#32
  let v161 : BitVec 32 := Scalar.remsi v160 c32_i32_94
  let c1_i32_840 : BitVec 32 := 1#32
  let v1307 : BitVec 32 := Scalar.muli v161 c1_i32_840
  let v1308 : BitVec 32 := Scalar.addi c0_i32_841 v1307
  v1308.toNat
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x2x64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2x128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x16384 : Shape := ⟨2, ![512, 16384]⟩
abbrev S2x128x64x64 : Shape := ⟨4, ![2, 128, 64, 64]⟩
abbrev S16384x512 : Shape := ⟨2, ![16384, 512]⟩
abbrev S2x128x16384 : Shape := ⟨3, ![2, 128, 16384]⟩
abbrev S2x128x256x64 : Shape := ⟨4, ![2, 128, 256, 64]⟩
abbrev S2x128x64x4x64 : Shape := ⟨5, ![2, 128, 64, 4, 64]⟩
abbrev S2x256x128x128 : Shape := ⟨4, ![2, 256, 128, 128]⟩
abbrev S_ : Shape := ⟨0, ![]⟩
abbrev S2x256x128 : Shape := ⟨3, ![2, 256, 128]⟩
abbrev S2x256x128x1 : Shape := ⟨4, ![2, 256, 128, 1]⟩
abbrev S2x256x64x128 : Shape := ⟨4, ![2, 256, 64, 128]⟩
abbrev S2x128x256x1 : Shape := ⟨4, ![2, 128, 256, 1]⟩

abbrev nBuf : Space → Nat
  | .hbm => 31
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x16384, .f32⟩
  | .hbm, ⟨2, _⟩ => ⟨S2x128x64x64, .f32⟩
  | .hbm, ⟨3, _⟩ => ⟨S2x128x64x64, .f32⟩
  | .hbm, ⟨4, _⟩ => ⟨S16384x512, .f32⟩
  | .hbm, ⟨5, _⟩ => ⟨S2x128x16384, .f32⟩
  | .hbm, ⟨6, _⟩ => ⟨S2x128x256x64, .f32⟩
  | .hbm, ⟨7, _⟩ => ⟨S2x128x64x4x64, .f32⟩
  | .hbm, ⟨8, _⟩ => ⟨S2x128x256x64, .f32⟩
  | .hbm, ⟨9, _⟩ => ⟨S2x128x64x4x64, .f32⟩
  | .hbm, ⟨10, _⟩ => ⟨S2x128x256x64, .f32⟩
  | .hbm, ⟨11, _⟩ => ⟨S2x256x128x128, .f32⟩
  | .hbm, ⟨12, _⟩ => ⟨S_, .f32⟩
  | .hbm, ⟨13, _⟩ => ⟨S2x256x128x128, .f32⟩
  | .hbm, ⟨14, _⟩ => ⟨S2x256x128x128, .f32⟩
  | .hbm, ⟨15, _⟩ => ⟨S_, .f32⟩
  | .hbm, ⟨16, _⟩ => ⟨S2x256x128, .f32⟩
  | .hbm, ⟨17, _⟩ => ⟨S2x256x128x1, .f32⟩
  | .hbm, ⟨18, _⟩ => ⟨S2x256x128x128, .f32⟩
  | .hbm, ⟨19, _⟩ => ⟨S2x256x128x128, .f32⟩
  | .hbm, ⟨20, _⟩ => ⟨S2x256x128x128, .f32⟩
  | .hbm, ⟨21, _⟩ => ⟨S_, .f32⟩
  | .hbm, ⟨22, _⟩ => ⟨S2x256x128, .f32⟩
  | .hbm, ⟨23, _⟩ => ⟨S2x256x128x1, .f32⟩
  | .hbm, ⟨24, _⟩ => ⟨S2x256x64x128, .f32⟩
  | .hbm, ⟨25, _⟩ => ⟨S2x128x256x64, .f32⟩
  | .hbm, ⟨26, _⟩ => ⟨S2x128x256x1, .f32⟩
  | .hbm, ⟨27, _⟩ => ⟨S2x128x256x64, .f32⟩
  | .hbm, ⟨28, _⟩ => ⟨S2x128x256x64, .f32⟩
  | .hbm, ⟨29, _⟩ => ⟨S2x128x16384, .f32⟩
  | .hbm, ⟨30, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Proof.Body.lean ====
/- The kernel's body in a form that proofs can walk: after the barrier's signals, which are conditionals, the body is a
   straight line of loads, stores, copies and waits; here each family of 31 copies or waits is one list of offsets. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.A2A

open Idealize.ShloMosaic Idealize.ShloMosaic.TcCoe Idealize.SL.Sem Cert.KernelIdeal Cert.KernelIdeal.Gen

variable {F : FTy → Type} [FloatOps F]

/-- A program of one core that returns nothing. -/
abbrev PU (F : FTy → Type) [FloatOps F] : Type _ := Prog (TpuEff nD τ sig (Elt F) Λ₀ .tc) PUnit

/-- Run `f` at every element of a list, in order, then `k`. -/
def seqs {α β : Type} (f : α → PU F) (k : Prog (TpuEff nD τ sig (Elt F) Λ₀ .tc) β) : List α → Prog (TpuEff nD τ sig (Elt F) Λ₀ .tc) β
  | [] => k
  | a :: l => Prog.bind (f a) fun _ => seqs f k l

/-! ## The memory the body names -/

abbrev a0 : Memref sig .tc .vmem S256x512 .f32 := Memref.whole cc0_stg0_0
abbrev a1 : Memref sig .tc .vmem S512x512 .f32 := Memref.whole cc0_stg1_0
abbrev a2 : Memref sig .tc .vmem S512x512 .f32 := Memref.whole cc0_stg2_0
abbrev a3 : Memref sig .tc .vmem S2x2x64x128 .f32 := Memref.whole cc0_stg3_0
abbrev a4 : Memref sig .tc .vmem S2x2x128x64 .f32 := Memref.whole cc0_stg4_0
abbrev a5 : Memref sig .tc .vmem S256x512 .f32 := Memref.whole cc0_stg5_0
/-- What a core sends in the first phase: its partial product, one slot for each device. -/
abbrev sM : Memref sig .tc .vmem S32x8x512 .bf16 := Memref.whole cc0_scratch0
/-- Where the partial products of every device land in the first phase. -/
abbrev gM : Memref sig .tc .vmem S32x8x512 .bf16 := Memref.whole cc0_scratch1
/-- Where the reduced rows of every device land in the second phase. -/
abbrev oM : Memref sig .tc .vmem S32x8x512 .bf16 := Memref.whole cc0_scratch2

/-- One of the 32 slots of a scratch buffer, as the body views it. -/
abbrev slot (M : Memref sig .tc .vmem S32x8x512 .bf16) (off : Fin 3 → Nat) (h : ∀ a, off a + S1x8x512.size a ≤ S32x8x512.size a) :
    Memref sig .tc .vmem S8x512 .bf16 :=
  (M.slice (Rect.unit (s := S32x8x512) off S1x8x512.size h) (fun _ => rfl)).squeeze S8x512 squeezes_S1x8x512_S8x512
/-- One of the 32 semaphores of an array. -/
abbrev semAt (A : DmaSems sig S32) (off : Fin 1 → Nat) (h : ∀ a, off a + S1.size a ≤ S32.size a) : DmaSem sig :=
  ((A.slice (Rect.unit (s := S32) off S1.size h)).squeeze S_ squeezes_S1_S_).sem

/-- The word the body adds to its own number: one more than the index. -/
abbrev wd (r : Fin 31) : BitVec 32 := BitVec.ofNat 32 (1 + r.val)

/-- The device `wd` steps ahead, as the body computes its number. -/
def devN (d : Dev nD) (w : BitVec 32) : Nat :=
  (Scalar.addi 0#32 (Scalar.muli (Scalar.remsi (Scalar.addi (Scalar.remsi (Scalar.divsi (Dev.word d) 1#32) 32#32) w) 32#32) 1#32)).toNat

theorem devN_eq : ∀ (d : Dev nD) (r : Fin 31), devN d (wd r) = (d.val + r.val + 1) % 32 := by decide +kernel
theorem devN_lt (d : Dev nD) (r : Fin 31) : devN d (wd r) < nD := by rw [devN_eq]; exact Nat.mod_lt _ (by decide)

theorem inb1 : ∀ o : Fin 31, ∀ a, (![o.val] : Fin 1 → Nat) a + S1.size a ≤ S32.size a := by decide +kernel
theorem inb3 : ∀ o : Fin 32, ∀ a, (![o.val, 0, 0] : Fin 3 → Nat) a + S1x8x512.size a ≤ S32x8x512.size a := by decide +kernel
theorem inb3' (o : Fin 31) : ∀ a, (![o.val, 0, 0] : Fin 3 → Nat) a + S1x8x512.size a ≤ S32x8x512.size a := inb3 (o.castLE (by decide))
theorem words3 (o : Fin 32) : (Rect.unit (s := S32x8x512) ![o.val, 0, 0] S1x8x512.size (inb3 o)).WholeWords (EltTy.packing .bf16) := by
  have h := k0_off2_wordsbf16 (o : Dev nD)
  have e := k0_off2_eq (d0 := (o : Dev nD))
  revert h
  generalize_proofs p q
  revert p
  rw [e]
  exact fun _ h => h
theorem words3' (o : Fin 31) : (Rect.unit (s := S32x8x512) ![o.val, 0, 0] S1x8x512.size (inb3' o)).WholeWords (EltTy.packing .bf16) :=
  words3 (o.castLE (by decide))

/-! ## The four families of copies and waits -/

/-- The order in which the body goes through the offsets: each with its place in the order. -/
def order : List (Fin 31 × Fin 31) :=
  [(0, 17), (1, 13), (2, 21), (3, 9), (4, 18), (5, 12), (6, 20), (7, 10), (8, 19), (9, 11), (10, 25), (11, 5), (12, 26), (13, 16), (14, 14),
   (15, 4), (16, 29), (17, 1), (18, 28), (19, 2), (20, 22), (21, 8), (22, 27), (23, 3), (24, 24), (25, 6), (26, 15), (27, 23), (28, 7), (29, 30), (30, 0)]

/-- First phase: the slot for the device ahead goes to this device's slot there. -/
def send1 (d : Dev nD) (x : Fin 31 × Fin 31) : PU F :=
  Prog.lift (.enqueueDma (slot sM (k0_off3 d (wd x.2)) (k0_off3_inb d x.2))
    (.remote (Dev.tc (⟨devN d (wd x.2), devN_lt d x.2⟩ : Dev nD)) (slot gM (k0_off2 d) (k0_off2_inb d)) (.dma (semAt cc0_scratch3 ![x.1.val] (inb1 x.1))))
    (.dma (semAt cc0_scratch4 (k0_off1 d) (k0_off1_inb d)))
    (((Memref.isWhole_whole cc0_scratch0).wordExact_slice rfl _ (k0_off3_wordsbf16 d x.2)).reshape _ _)
    (((Memref.isWhole_whole cc0_scratch1).wordExact_slice rfl _ (k0_off2_wordsbf16 d)).reshape _ _) ⟨⟨rfl, Or.inl rfl⟩, trivial⟩)
/-- Wait for what the device ahead sends in the first phase. -/
def wait1 (d : Dev nD) (x : Fin 31 × Fin 31) : PU F :=
  Prog.lift (.waitDma2 (semAt cc0_scratch4 (k0_off5 d (wd x.2)) (k0_off5_inb d x.2)) (slot gM (k0_off3 d (wd x.2)) (k0_off3_inb d x.2))
    (slot gM (k0_off3 d (wd x.2)) (k0_off3_inb d x.2))
    (((Memref.isWhole_whole cc0_scratch1).wordExact_slice rfl _ (k0_off3_wordsbf16 d x.2)).reshape _ _)
    (((Memref.isWhole_whole cc0_scratch1).wordExact_slice rfl _ (k0_off3_wordsbf16 d x.2)).reshape _ _))
/-- Second phase: this device's reduced rows go to the same slot of the device ahead. -/
def send2 (d : Dev nD) (x : Fin 31 × Fin 31) : PU F :=
  Prog.lift (.enqueueDma (slot oM (k0_off2 d) (k0_off2_inb d))
    (.remote (Dev.tc (⟨devN d (wd x.2), devN_lt d x.2⟩ : Dev nD)) (slot oM (k0_off2 d) (k0_off2_inb d)) (.dma (semAt cc0_scratch5 ![x.1.val] (inb1 x.1))))
    (.dma (semAt cc0_scratch6 (k0_off1 d) (k0_off1_inb d)))
    (((Memref.isWhole_whole cc0_scratch2).wordExact_slice rfl _ (k0_off2_wordsbf16 d)).reshape _ _)
    (((Memref.isWhole_whole cc0_scratch2).wordExact_slice rfl _ (k0_off2_wordsbf16 d)).reshape _ _) ⟨⟨rfl, Or.inl rfl⟩, trivial⟩)
/-- Wait for what the device ahead sends in the second phase. -/
def wait2 (d : Dev nD) (x : Fin 31 × Fin 31) : PU F :=
  Prog.lift (.waitDma2 (semAt cc0_scratch6 (k0_off5 d (wd x.2)) (k0_off5_inb d x.2)) (slot oM (k0_off3 d (wd x.2)) (k0_off3_inb d x.2))
    (slot oM (k0_off3 d (wd x.2)) (k0_off3_inb d x.2))
    (((Memref.isWhole_whole cc0_scratch2).wordExact_slice rfl _ (k0_off3_wordsbf16 d x.2)).reshape _ _)
    (((Memref.isWhole_whole cc0_scratch2).wordExact_slice rfl _ (k0_off3_wordsbf16 d x.2)).reshape _ _))
/-- Wait until this core's copies of one place have left, those of the first phase and then those of the second. -/
def waitS (o : Fin 31) : PU F :=
  Prog.bind (Prog.lift (.waitDma2 (semAt cc0_scratch3 ![o.val] (inb1 o)) (slot sM ![o.val, 0, 0] (inb3' o)) (slot sM ![o.val, 0, 0] (inb3' o))
    (((Memref.isWhole_whole cc0_scratch0).wordExact_slice rfl _ (words3' o)).reshape _ _)
    (((Memref.isWhole_whole cc0_scratch0).wordExact_slice rfl _ (words3' o)).reshape _ _))) fun _ =>
  Prog.lift (.waitDma2 (semAt cc0_scratch5 ![o.val] (inb1 o)) (slot oM ![o.val, 0, 0] (inb3' o)) (slot oM ![o.val, 0, 0] (inb3' o))
    (((Memref.isWhole_whole cc0_scratch2).wordExact_slice rfl _ (words3' o)).reshape _ _)
    (((Memref.isWhole_whole cc0_scratch2).wordExact_slice rfl _ (words3' o)).reshape _ _))

/-! ## What the body stores -/

/-- The first half of the partial product, from what the body has loaded: the input rows, the two weight blocks, the keys and values of
    the first batch's two groups. -/
def half0 (x : Vec F S256x512 .f32) (wq wo : Vec F S512x512 .f32) (k0 : Vec F S1x1x64x128 .f32) (v0 : Vec F S1x1x128x64 .f32)
    (k1 : Vec F S1x1x64x128 .f32) (v1 : Vec F S1x1x128x64 .f32) : Vec F S16x8x512 .bf16 :=
  let z1 := k0_pay3 (F := F)
  let z2 := k0_pay4 (F := F)
  let q0 := k0_pay6 x wq
  let kk := k0_pay7 k0
  k0_pay33 (k0_pay1 wo)
    (k0_pay23 (k0_pay9 z2 (k0_pay8 v0)) (k0_pay12 z1 q0 kk) (k0_pay13 z1 q0 kk) (k0_pay15 z1 q0 kk) (k0_pay16 z1 q0 kk) (k0_pay18 z1 q0 kk) (k0_pay19 z1 q0 kk)
      (k0_pay21 z1 q0 kk) (k0_pay22 z1 q0 kk))
    (k0_pay24 z2 v1) (k0_pay25 z1 (k0_pay5 x wq) k1) (k0_pay27 z1 (k0_pay5 x wq) k1) (k0_pay28 z1 (k0_pay5 x wq) k1) (k0_pay30 z1 (k0_pay5 x wq) k1)
    (k0_pay31 z1 (k0_pay5 x wq) k1) (k0_pay32 z1 (k0_pay5 x wq) k1)
/-- The second half, from the keys and values of the second batch. -/
def half1 (x : Vec F S256x512 .f32) (wq wo : Vec F S512x512 .f32) (k0 : Vec F S1x1x64x128 .f32) (v0 : Vec F S1x1x128x64 .f32)
    (k1 : Vec F S1x1x64x128 .f32) (v1 : Vec F S1x1x128x64 .f32) : Vec F S16x8x512 .bf16 :=
  let z1 := k0_pay3 (F := F)
  let z2 := k0_pay4 (F := F)
  let v171 := k0_pay2 x wq
  let v366 := k0_pay40 (k0_pay34 v171)
  k0_pay52 (k0_pay1 wo)
    (k0_pay39 z2 (k0_pay35 v171) (k0_pay36 v0) (k0_pay37 z1 k0) (k0_pay38 z2 v0))
    (k0_pay41 z2 v1) (k0_pay42 z1 v366 k1) (k0_pay44 z1 v366 k1) (k0_pay45 z1 v366 k1) (k0_pay47 z1 v366 k1) (k0_pay48 z1 v366 k1)
    (k0_pay50 z1 v366 k1) (k0_pay51 z1 v366 k1)

/-! ## The body after the signals -/

/-- The last stretch: the result, then the waits for what this core has sent. -/
def tail5 : PU F :=
  .op (.load oM (Rect.unit (s := S32x8x512) ![0, 0, 0] S32x8x512.size inb_S32x8x512_S32x8x512_0_0_0).toLoadRect (View.loadsAt_vmem h_S32x8x512)) fun v =>
  .op (.load a5 (Rect.unit (s := S256x512) ![0, 0] S256x512.size inb_S256x512_S256x512_0_0).toLoadRect (View.loadsAt_vmem h_S256x512)) fun _ =>
  .op (.store a5 (Rect.unit (s := S256x512) ![0, 0] S256x512.size inb_S256x512_S256x512_0_0) (k0_pay56 v) Finset.univ (View.stores_vmem_bits_univ h_S256x512 rfl) (.inl rfl)) fun _ =>
  seqs waitS (.ret ⟨⟩) (List.finRange 31)
/-- The reduction and the second phase. -/
def tail4 (d : Dev nD) : PU F :=
  .op (.load gM (Rect.unit (s := S32x8x512) ![0, 0, 0] S32x8x512.size inb_S32x8x512_S32x8x512_0_0_0).toLoadRect (View.loadsAt_vmem h_S32x8x512)) fun v =>
  .op (.load oM (Rect.unit (s := S32x8x512) (k0_off4 d) S1x8x512.size (k0_off4_inb d)).toLoadRect (View.loadsAt_vmem h_S1x8x512)) fun _ =>
  .op (.store oM (Rect.unit (s := S32x8x512) (k0_off4 d) S1x8x512.size (k0_off4_inb d)) (k0_pay55 v) Finset.univ
    (View.stores_vmem h_S1x8x512 ((Memref.isWhole_whole cc0_scratch2).storeExact_slice rfl _ (k0_off4_packedbf16 d)) (fun _ => rfl)) (.inl rfl)) fun _ =>
  seqs (send2 d) (seqs (wait2 d) tail5 order) order
/-- The first phase, from the barrier's wait on. -/
def tail3 (d : Dev nD) : PU F :=
  Prog.bind (semWaitWord (SemArray.scalar (sig.barrier 0 rfl) : Sems sig S_).sem 31#32) fun _ =>
  seqs (send1 d)
    (.op (.load sM (Rect.unit (s := S32x8x512) (k0_off4 d) S1x8x512.size (k0_off4_inb d)).toLoadRect (View.loadsAt_vmem h_S1x8x512)) fun v =>
     .op (.load gM (Rect.unit (s := S32x8x512) (k0_off4 d) S1x8x512.size (k0_off4_inb d)).toLoadRect (View.loadsAt_vmem h_S1x8x512)) fun _ =>
     .op (.store gM (Rect.unit (s := S32x8x512) (k0_off4 d) S1x8x512.size (k0_off4_inb d)) (k0_pay54 (k0_pay53 v)) Finset.univ
       (View.stores_vmem h_S1x8x512 ((Memref.isWhole_whole cc0_scratch1).storeExact_slice rfl _ (k0_off4_packedbf16 d)) (fun _ => rfl)) (.inl rfl)) fun _ =>
     seqs (wait1 d) (tail4 d) order) order

/-- The loads, the two stores of the partial product, and what follows. -/
def tail2 (d : Dev nD) : PU F :=
  .op (.load a0 (Rect.unit (s := S256x512) ![0, 0] S256x512.size inb_S256x512_S256x512_0_0).toLoadRect (View.loadsAt_vmem h_S256x512)) fun x =>
  .op (.load a1 (Rect.unit (s := S512x512) ![0, 0] S512x512.size inb_S512x512_S512x512_0_0).toLoadRect (View.loadsAt_vmem h_S512x512)) fun wq =>
  .op (.load a2 (Rect.unit (s := S512x512) ![0, 0] S512x512.size inb_S512x512_S512x512_0_0).toLoadRect (View.loadsAt_vmem h_S512x512)) fun wo =>
  .op (.load a3 (Rect.unit (s := S2x2x64x128) ![0, 0, 0, 0] S1x1x64x128.size inb_S2x2x64x128_S1x1x64x128_0_0_0_0).toLoadRect (View.loadsAt_vmem h_S1x1x64x128)) fun k00 =>
  .op (.load a4 (Rect.unit (s := S2x2x128x64) ![0, 0, 0, 0] S1x1x128x64.size inb_S2x2x128x64_S1x1x128x64_0_0_0_0).toLoadRect (View.loadsAt_vmem h_S1x1x128x64)) fun v00 =>
  .op (.load a3 (Rect.unit (s := S2x2x64x128) ![0, 1, 0, 0] S1x1x64x128.size inb_S2x2x64x128_S1x1x64x128_0_1_0_0).toLoadRect (View.loadsAt_vmem h_S1x1x64x128)) fun k01 =>
  .op (.load a4 (Rect.unit (s := S2x2x128x64) ![0, 1, 0, 0] S1x1x128x64.size inb_S2x2x128x64_S1x1x128x64_0_1_0_0).toLoadRect (View.loadsAt_vmem h_S1x1x128x64)) fun v01 =>
  .op (.load sM (Rect.unit (s := S32x8x512) ![0, 0, 0] S16x8x512.size inb_S32x8x512_S16x8x512_0_0_0).toLoadRect (View.loadsAt_vmem h_S16x8x512)) fun _ =>
  .op (.store sM (Rect.unit (s := S32x8x512) ![0, 0, 0] S16x8x512.size inb_S32x8x512_S16x8x512_0_0_0) (half0 x wq wo k00 v00 k01 v01) Finset.univ
    (View.stores_vmem h_S16x8x512 ((Memref.isWhole_whole cc0_scratch0).storeExact_slice rfl _ packedbf16_S32x8x512_S16x8x512_0_0_0) (fun _ => rfl)) (.inl rfl)) fun _ =>
  .op (.load a3 (Rect.unit (s := S2x2x64x128) ![1, 0, 0, 0] S1x1x64x128.size inb_S2x2x64x128_S1x1x64x128_1_0_0_0).toLoadRect (View.loadsAt_vmem h_S1x1x64x128)) fun k10 =>
  .op (.load a4 (Rect.unit (s := S2x2x128x64) ![1, 0, 0, 0] S1x1x128x64.size inb_S2x2x128x64_S1x1x128x64_1_0_0_0).toLoadRect (View.loadsAt_vmem h_S1x1x128x64)) fun v10 =>
  .op (.load a3 (Rect.unit (s := S2x2x64x128) ![1, 1, 0, 0] S1x1x64x128.size inb_S2x2x64x128_S1x1x64x128_1_1_0_0).toLoadRect (View.loadsAt_vmem h_S1x1x64x128)) fun k11 =>
  .op (.load a4 (Rect.unit (s := S2x2x128x64) ![1, 1, 0, 0] S1x1x128x64.size inb_S2x2x128x64_S1x1x128x64_1_1_0_0).toLoadRect (View.loadsAt_vmem h_S1x1x128x64)) fun v11 =>
  .op (.load sM (Rect.unit (s := S32x8x512) ![16, 0, 0] S16x8x512.size inb_S32x8x512_S16x8x512_16_0_0).toLoadRect (View.loadsAt_vmem h_S16x8x512)) fun _ =>
  .op (.store sM (Rect.unit (s := S32x8x512) ![16, 0, 0] S16x8x512.size inb_S32x8x512_S16x8x512_16_0_0) (half1 x wq wo k10 v10 k11 v11) Finset.univ
    (View.stores_vmem h_S16x8x512 ((Memref.isWhole_whole cc0_scratch0).storeExact_slice rfl _ packedbf16_S32x8x512_S16x8x512_16_0_0) (fun _ => rfl)) (.inl rfl)) fun _ =>
  tail3 d

end Cert.KernelIdeal.A2A

end
-- ==== Proof.BodyEq.lean ====
/- The printed body is the straight form of Body.lean. -/
module

public import proofs.«01_k».proof.Proof.Body
public import Idealize.ShloMosaic.Lib.Tactic.ProgEq

@[expose] public section

noncomputable section

namespace Cert.KernelIdeal.A2A

open Idealize.ShloMosaic Idealize.ShloMosaic.TcCoe Idealize.SL.Sem Cert.KernelIdeal Cert.KernelIdeal.Gen

variable {F : FTy → Type} [FloatOps F]

/-- The barrier's semaphore. -/
abbrev barS : Sem sig := (SemArray.scalar (sig.barrier 0 rfl) : Sems sig S_).sem

/-- Whether the device is another one than the word says, as the body computes it. -/
def condN (d : Dev nD) (w : BitVec 32) : BitVec 1 :=
  Scalar.cmpi .ne (Scalar.extui (Scalar.cmpi .ne (Scalar.remsi (Scalar.divsi (Dev.word d) 1#32) 32#32) w) : BitVec 32) 0#32
/-- The device a signal goes to, as the body computes its number. -/
def devC (w : BitVec 32) : Nat := (Scalar.addi 0#32 (Scalar.muli w 1#32)).toNat
/-- The word of a device's number. -/
abbrev wn (j : Fin 32) : BitVec 32 := BitVec.ofNat 32 j.val

theorem condN_iff : ∀ (d : Dev nD) (j : Fin 32), condN d (wn j) = 1#1 ↔ d ≠ (j : Dev nD) := by decide +kernel
theorem devC_eq : ∀ j : Fin 32, devC (wn j) = j.val := by decide +kernel
theorem devC_lt (j : Fin 32) : devC (wn j) < nD := by rw [devC_eq]; exact j.isLt

/-- The signals to the devices of a list, this one left out, then `k`. -/
def sigs {β : Type} (d : Dev nD) (k : Prog (TpuEff nD τ sig (Elt F) Λ₀ .tc) β) : List (Fin 32) → Prog (TpuEff nD τ sig (Elt F) Λ₀ .tc) β
  | [] => k
  | j :: l => if _h : condN d (wn j) = 1#1 then
      Prog.bind (semSignalWord (⟨devC (wn j), devC_lt j⟩ : Dev nD) barS 1#32) fun _ => sigs d k l
    else sigs d k l

theorem sigs_bind {β γ : Type} (d : Dev nD) (k : Prog (TpuEff nD τ sig (Elt F) Λ₀ .tc) β) (g : β → Prog (TpuEff nD τ sig (Elt F) Λ₀ .tc) γ)
    (l : List (Fin 32)) : Prog.bind (sigs d k l) g = sigs d (Prog.bind k g) l := by
  induction l with
  | nil => rfl
  | cons j l ih =>
    unfold sigs
    split
    · rw [ProgEq.bind_assoc]; simp only [ih]
    · exact ih
theorem sigs_append {β : Type} (d : Dev nD) (k : Prog (TpuEff nD τ sig (Elt F) Λ₀ .tc) β) (l l' : List (Fin 32)) :
    sigs d (sigs d k l') l = sigs d k (l ++ l') := by
  induction l with
  | nil => rfl
  | cons j l ih => rw [List.cons_append]; unfold sigs; rw [ih]

/-- A window of the body that is a run of signals, in its place. -/
theorem step {β γ δ : Type} {d : Dev nD} {a : β} {l : List (Fin 32)} {p : Prog (TpuEff nD τ sig (Elt F) Λ₀ .tc) β} (hp : p = sigs d (.ret a) l)
    {h : β → Prog (TpuEff nD τ sig (Elt F) Λ₀ .tc) γ} {g : γ → Prog (TpuEff nD τ sig (Elt F) Λ₀ .tc) δ} {q : Prog (TpuEff nD τ sig (Elt F) Λ₀ .tc) δ}
    (hq : (h a >>= g) = q) : ((p >>= h) >>= g) = sigs d q l := by
  show Prog.bind (Prog.bind p h) g = _
  rw [hp, sigs_bind, sigs_bind, ← hq]; rfl
/-- The first window, which asks for the device's number. -/
theorem step0 {β γ δ : Type} {p : Prog (TpuEff nD τ sig (Elt F) Λ₀ .tc) β} {p' : Dev nD → Prog (TpuEff nD τ sig (Elt F) Λ₀ .tc) β}
    (hp : p = .op .deviceId p') {h : β → Prog (TpuEff nD τ sig (Elt F) Λ₀ .tc) γ} {g : γ → Prog (TpuEff nD τ sig (Elt F) Λ₀ .tc) δ} :
    ((p >>= h) >>= g) = .op .deviceId fun d => ((p' d >>= h) >>= g) := by
  rw [hp]; rfl

/-- The devices in the order in which the body signals them. -/
def allDevs : List (Fin 32) := [0, 1, 2, 3, 4, 5, 6, 7, 8, 9, 10, 11, 12, 13, 14, 15, 16, 17, 18, 19, 20, 21, 22, 23, 24, 25, 26, 27, 28, 29, 30, 31]

/-- The word of a device's own number, as the body computes it. -/
abbrev me (d : Dev nD) : BitVec 32 := Scalar.remsi (Scalar.divsi (Dev.word d) 1#32) 32#32

/-- The signals of the body's first windows, eight or so to a window. -/
theorem part1_eq : k0_part1 (F := F) a0 (hstage0_0 0) a1 (hstage0_1 0) a2 (hstage0_2 0) a3 (hstage0_3 0) a4 (hstage0_4 0) a5 (hstage0_5 0)
      sM (Memref.isWhole_whole _) gM (Memref.isWhole_whole _) oM (Memref.isWhole_whole _) cc0_scratch3 cc0_scratch4 cc0_scratch5 cc0_scratch6
    = .op .deviceId fun d => sigs d (.ret ⟨d, me d, SemArray.scalar (sig.barrier 0 rfl)⟩) [0, 1, 2, 3, 4, 5, 6, 7] := by
  rw [k0_part1_eq_skeleton]; chain_rfl
theorem part2_eq (d : Dev nD) : k0_part2 (F := F) a0 (hstage0_0 0) a1 (hstage0_1 0) a2 (hstage0_2 0) a3 (hstage0_3 0) a4 (hstage0_4 0) a5 (hstage0_5 0)
      sM (Memref.isWhole_whole _) gM (Memref.isWhole_whole _) oM (Memref.isWhole_whole _) cc0_scratch3 cc0_scratch4 cc0_scratch5 cc0_scratch6 d (me d) (SemArray.scalar (sig.barrier 0 rfl))
    = sigs d (.ret ⟨⟩) [8, 9, 10, 11, 12, 13, 14, 15, 16, 17] := by
  rw [k0_part2_eq_skeleton]; chain_rfl
theorem part3_eq (d : Dev nD) : k0_part3 (F := F) a0 (hstage0_0 0) a1 (hstage0_1 0) a2 (hstage0_2 0) a3 (hstage0_3 0) a4 (hstage0_4 0) a5 (hstage0_5 0)
      sM (Memref.isWhole_whole _) gM (Memref.isWhole_whole _) oM (Memref.isWhole_whole _) cc0_scratch3 cc0_scratch4 cc0_scratch5 cc0_scratch6 d (me d) (SemArray.scalar (sig.barrier 0 rfl))
    = sigs d (.ret ⟨⟩) [18, 19, 20, 21, 22, 23, 24, 25, 26, 27] := by
  rw [k0_part3_eq_skeleton]; chain_rfl
/-- The words of the first ten targets, which the last window of signals returns. -/
abbrev tgt (d : Dev nD) (w : BitVec 32) : BitVec 32 := Scalar.remsi (Scalar.addi (me d) w) 32#32
theorem part4_eq (d : Dev nD) : k0_part4 (F := F) a0 (hstage0_0 0) a1 (hstage0_1 0) a2 (hstage0_2 0) a3 (hstage0_3 0) a4 (hstage0_4 0) a5 (hstage0_5 0)
      sM (Memref.isWhole_whole _) gM (Memref.isWhole_whole _) oM (Memref.isWhole_whole _) cc0_scratch3 cc0_scratch4 cc0_scratch5 cc0_scratch6 d (me d) (SemArray.scalar (sig.barrier 0 rfl))
    = sigs d (.ret ⟨tgt d 18#32, tgt d 14#32, tgt d 22#32, tgt d 10#32, tgt d 19#32, tgt d 13#32, tgt d 21#32, tgt d 11#32, tgt d 20#32, tgt d 12#32, 26#32⟩)
        [28, 29, 30, 31] := by
  rw [k0_part4_eq_skeleton]; chain_rfl

/-- The body at its one point: the device's number, the barrier's signals, and the straight line after them. -/
theorem body_eq : cc0_body (F := F) a0 (hstage0_0 0) a1 (hstage0_1 0) a2 (hstage0_2 0) a3 (hstage0_3 0) a4 (hstage0_4 0) a5 (hstage0_5 0)
      sM (Memref.isWhole_whole _) gM (Memref.isWhole_whole _) oM (Memref.isWhole_whole _) cc0_scratch3 cc0_scratch4 cc0_scratch5 cc0_scratch6 = .op .deviceId fun d => sigs d (tail2 d) allDevs := by
  unfold cc0_body k0_part65
  refine (step0 part1_eq).trans ?_
  refine congrArg _ (funext fun d => ?_)
  have e : sigs (F := F) d (tail2 d) allDevs = sigs d (sigs d (sigs d (sigs d (tail2 d) [28, 29, 30, 31]) [18, 19, 20, 21, 22, 23, 24, 25, 26, 27])
      [8, 9, 10, 11, 12, 13, 14, 15, 16, 17]) [0, 1, 2, 3, 4, 5, 6, 7] := by
    rw [sigs_append, sigs_append, sigs_append]; rfl
  rw [e]
  refine step rfl ?_
  refine step (part2_eq d) ?_
  refine step (part3_eq d) ?_
  refine step (part4_eq d) ?_
  chain_rfl

end Cert.KernelIdeal.A2A

end
-- ==== Proof.Cells.lean ====
/- The semaphores and the buffer slots the kernel's devices share: which semaphore each copy and wait names, which
   elements each view of a slot covers, and which device each copy goes to. -/
module

public import proofs.«01_k».proof.Proof.BodyEq
public import Idealize.ShloMosaic.Lib.Pipeline.Regions
public import Idealize.ShloMosaic.Lib.Pipeline.Kit
public import Idealize.ShloMosaic.Lib.Pipeline.BigSepL
public import Idealize.ShloMosaic.Lib.Rounds
public import Idealize.ShloMosaic.Lib.Tactic
public import Idealize.ShloMosaic.Lib.Pipeline.RegionTalk
public import Idealize.ShloMosaic.Lib.ValueLayout
public import Idealize.ShloMosaic.Lib.ViewIndex

@[expose] public section

noncomputable section

namespace Cert.KernelIdeal.A2A

open Idealize.ShloMosaic Idealize.ShloMosaic.TcCoe Idealize.SL.Sem Cert.KernelIdeal Cert.KernelIdeal.Gen

variable {F : FTy → Type} [FloatOps F]

/-! ## Devices -/

/-- The device `r + 1` steps ahead of `c`. -/
def ahead (c : Dev nD) (r : Fin 31) : Dev nD := ⟨(c.val + r.val + 1) % 32, Nat.mod_lt _ (by decide)⟩

theorem devN_ahead (c : Dev nD) (r : Fin 31) : (⟨devN c (wd r), devN_lt c r⟩ : Dev nD) = ahead c r := Fin.ext (devN_eq c r)

theorem ahead_ne : ∀ (c : Dev nD) (r : Fin 31), ahead c r ≠ c := by decide +kernel

/-- The step the body takes at each place of its order. -/
def stepAt : Fin 31 → Fin 31 :=
  ![17, 13, 21, 9, 18, 12, 20, 10, 19, 11, 25, 5, 26, 16, 14, 4, 29, 1, 28, 2, 22, 8, 27, 3, 24, 6, 15, 23, 7, 30, 0]

theorem order_eq : order = (List.finRange 31).map fun o => (o, stepAt o) := by decide +kernel

/-- The place at which the body takes a step. -/
def placeOf (r : Fin 31) : Fin 31 := (List.finRange 31).find? (fun o => stepAt o = r) |>.getD 0

theorem placeOf_stepAt : ∀ o : Fin 31, placeOf (stepAt o) = o := by decide +kernel
theorem stepAt_placeOf : ∀ r : Fin 31, stepAt (placeOf r) = r := by decide +kernel

/-- The place of the order at which `c` names device `t` (any place if `t` is `c`). -/
def placeTo (c t : Dev nD) : Fin 31 := placeOf ⟨(t.val + 31 - c.val) % 32 % 31, Nat.mod_lt _ (by decide)⟩

/-- Every device but `c`, in the order in which `c` names them. -/
def others (c : Dev nD) : List (Dev nD) := order.map fun x => ahead c x.2

theorem others_nodup (c : Dev nD) : (others c).Nodup := by revert c; decide +kernel
theorem others_set (c : Dev nD) : (others c).toFinset = Finset.univ.erase c := by revert c; decide +kernel

/-! ## Semaphores -/

/-- The four arrays of semaphores: first-phase departures and arrivals, second-phase departures and arrivals. -/
def dsem (k : Fin 4) (j : Fin 32) : DmaSem sig := ⟨6 + 32 * k.val + j.val, by
  show 6 + 32 * k.val + j.val < 134
  have := k.isLt; have := j.isLt; omega⟩

theorem sem_at1 (o : Fin 31) : semAt cc0_scratch3 ![o.val] (inb1 o) = dsem 0 (o.castLE (by decide)) := by revert o; decide +kernel
theorem sem_at3 (o : Fin 31) : semAt cc0_scratch5 ![o.val] (inb1 o) = dsem 2 (o.castLE (by decide)) := by revert o; decide +kernel
theorem sem_at2 (d : Dev nD) : semAt cc0_scratch4 (k0_off1 d) (k0_off1_inb d) = dsem 1 d := by revert d; decide +kernel
theorem sem_at4 (d : Dev nD) : semAt cc0_scratch6 (k0_off1 d) (k0_off1_inb d) = dsem 3 d := by revert d; decide +kernel
theorem sem_at2' (d : Dev nD) (r : Fin 31) : semAt cc0_scratch4 (k0_off5 d (wd r)) (k0_off5_inb d r) = dsem 1 (ahead d r) := by
  revert d r; decide +kernel
theorem sem_at4' (d : Dev nD) (r : Fin 31) : semAt cc0_scratch6 (k0_off5 d (wd r)) (k0_off5_inb d r) = dsem 3 (ahead d r) := by
  revert d r; decide +kernel

/-- What a semaphore is for. -/
inductive Role where
  | bar
  | own (k : Fin 4) (j : Fin 32)
  | other
  deriving DecidableEq

/-- The role of each semaphore, by its number. -/
def role : SemLoc sig → Role
  | .reg _ => .bar
  | .dma s => if 6 ≤ s.val then .own ⟨(s.val - 6) / 32 % 4, Nat.mod_lt _ (by decide)⟩ ⟨(s.val - 6) % 32, Nat.mod_lt _ (by decide)⟩ else .other

theorem role_bar : role (.reg barS) = .bar := rfl
theorem role_own : ∀ (k : Fin 4) (j : Fin 32), role (.dma (dsem k j)) = .own k j := by decide +kernel

/-! ## Slots -/

/-- The elements of slot `j` of a scratch buffer. -/
def slotSet (j : Fin 32) : Finset S32x8x512.Idx := Finset.univ.filter fun i => (i 0).val = j.val

theorem mem_slotSet {j : Fin 32} {i : S32x8x512.Idx} : i ∈ slotSet j ↔ (i 0).val = j.val := by
  unfold slotSet; rw [Finset.mem_filter]; exact ⟨fun h => h.2, fun h => ⟨Finset.mem_univ _, h⟩⟩

theorem slotSet_disjoint {j j' : Fin 32} (h : j ≠ j') : Disjoint (slotSet j) (slotSet j') := by
  rw [Finset.disjoint_left]
  intro i hi hi'
  exact h (Fin.ext ((mem_slotSet.mp hi).symm.trans (mem_slotSet.mp hi')))

theorem slotSet_union : Finset.univ.biUnion slotSet = (Finset.univ : Finset S32x8x512.Idx) := by
  ext i; simp only [Finset.mem_biUnion, Finset.mem_univ, true_and, iff_true]
  exact ⟨⟨(i 0).val, (i 0).isLt⟩, mem_slotSet.mpr rfl⟩

/-- Element `k` of slot `j`. -/
def at3 (j : Fin 32) (k : S8x512.Idx) : S32x8x512.Idx := ValueIdx.ix3 j (k 0 : Fin 8) (k 1 : Fin 512)

theorem at3_mem (j : Fin 32) (k : S8x512.Idx) : at3 j k ∈ slotSet j := mem_slotSet.mpr rfl

theorem exists_at3 {j : Fin 32} {i : S32x8x512.Idx} (h : i ∈ slotSet j) : ∃ k, at3 j k = i :=
  ⟨ValueIdx.ix2 (i 1 : Fin 8) (i 2 : Fin 512), Shape.idx3_ext (mem_slotSet.mp h).symm rfl rfl⟩

theorem rect_emb (j : Fin 32) (k : S8x512.Idx) :
    (Rect.unit (s := S32x8x512) ![j.val, 0, 0] S1x8x512.size (inb3 j)).emb (Shape.reshapeEquiv squeezes_S1x8x512_S8x512.numel_eq k) = at3 j k := by
  have e := ValueIdx.reshapeEquiv_ix2_1ab (a := 8) (b := 512) squeezes_S1x8x512_S8x512.numel_eq (k 0 : Fin 8) (k 1 : Fin 512)
  have hk : k = ValueIdx.ix2 (k 0 : Fin 8) (k 1 : Fin 512) := by funext a; match a with | 0 => rfl | 1 => rfl
  have e' : Shape.reshapeEquiv squeezes_S1x8x512_S8x512.numel_eq k = ValueIdx.ix3 (⟨0, Nat.one_pos⟩ : Fin 1) (k 0 : Fin 8) (k 1 : Fin 512) := by
    conv_lhs => rw [hk]
    exact e
  refine Shape.idx3_ext ?_ ?_ ?_ <;> rw [Rect.emb_apply, e']
  · rfl
  · show 0 + 1 * _ = _; rw [Nat.one_mul, Nat.zero_add]; rfl
  · show 0 + 1 * _ = _; rw [Nat.one_mul, Nat.zero_add]; rfl

theorem slot_eq (M : Memref sig .tc .vmem S32x8x512 .bf16) (j : Fin 32) (off : Fin 3 → Nat) (h) (e : off = ![j.val, 0, 0]) :
    slot M off h = slot M ![j.val, 0, 0] (inb3 j) := by subst e; rfl

theorem slot3 (M : Memref sig .tc .vmem S32x8x512 .bf16) (d : Dev nD) (r : Fin 31) :
    slot M (k0_off3 d (wd r)) (k0_off3_inb d r) = slot M ![(ahead d r).val, 0, 0] (inb3 (ahead d r)) :=
  slot_eq M (ahead d r) _ _ (k0_off3_eq (d0 := d) (r := r))
theorem slot2 (M : Memref sig .tc .vmem S32x8x512 .bf16) (d : Dev nD) :
    slot M (k0_off2 d) (k0_off2_inb d) = slot M ![d.val, 0, 0] (inb3 d) :=
  slot_eq M d _ _ (k0_off2_eq (d0 := d))

section Views

variable (j : Fin 32)

theorem set_sM : (slot sM ![j.val, 0, 0] (inb3 j)).view.set = slotSet j := by
  ext i
  constructor
  · intro h
    obtain ⟨k, -, e⟩ := Finset.mem_map.mp h
    have e' : at3 j k = i := (rect_emb j k).symm.trans e
    rw [← e']; exact at3_mem j k
  · intro h
    obtain ⟨k, e⟩ := exists_at3 h
    exact Finset.mem_map.mpr ⟨k, Finset.mem_univ _, (rect_emb j k).trans e⟩
theorem set_gM : (slot gM ![j.val, 0, 0] (inb3 j)).view.set = slotSet j := set_sM j
theorem set_oM : (slot oM ![j.val, 0, 0] (inb3 j)).view.set = slotSet j := set_sM j

theorem read_sM (f : Vec F S32x8x512 .bf16) (k : S8x512.Idx) : (slot sM ![j.val, 0, 0] (inb3 j)).view.read (Elt F) f k = f (at3 j k) :=
  congrArg f (rect_emb j k)
theorem read_oM (f : Vec F S32x8x512 .bf16) (k : S8x512.Idx) : (slot oM ![j.val, 0, 0] (inb3 j)).view.read (Elt F) f k = f (at3 j k) :=
  congrArg f (rect_emb j k)

theorem write_gM (f : Vec F S32x8x512 .bf16) (w : Vec F S8x512 .bf16) (k : S8x512.Idx) :
    (slot gM ![j.val, 0, 0] (inb3 j)).view.write (Elt F) f w Finset.univ (at3 j k) = w k := by
  have := View.write_emb_of_mem (v := (slot gM ![j.val, 0, 0] (inb3 j)).view) (Val := Elt F) f w (Finset.mem_univ k)
  rw [← rect_emb j k]; exact this
theorem write_oM (f : Vec F S32x8x512 .bf16) (w : Vec F S8x512 .bf16) (k : S8x512.Idx) :
    (slot oM ![j.val, 0, 0] (inb3 j)).view.write (Elt F) f w Finset.univ (at3 j k) = w k := by
  have := View.write_emb_of_mem (v := (slot oM ![j.val, 0, 0] (inb3 j)).view) (Val := Elt F) f w (Finset.mem_univ k)
  rw [← rect_emb j k]; exact this

end Views

end Cert.KernelIdeal.A2A

end
-- ==== Proof.Sched.lean ====
/- The protocol of the two exchanges: for each semaphore, who signals it or copies onto it, how much, and what the
   arrival hands over, contents included. -/
module

public import proofs.«01_k».proof.Proof.Cells

@[expose] public section

noncomputable section

namespace Cert.KernelIdeal.A2A

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.Transfers (shareTok shareDrop)

variable {F : FTy → Type} [FloatOps F]

/-- The exchange's ghost state: one duty for each device that pays a semaphore. -/
abbrev UX : Type := URounds (GSem nD τ sig) (Dev nD)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

/-! ## Cells and contents -/

/-- Device `c`'s barrier. -/
abbrev barC (c : Dev nD) : GSem nD τ sig := ((c : Thread nD τ), .reg barS)
/-- Semaphore `j` of device `c`'s array `k`. -/
abbrev ownC (c : Dev nD) (k : Fin 4) (j : Fin 32) : GSem nD τ sig := ((c : Thread nD τ), .dma (dsem k j))

/-- The credit of one slot's copy. -/
abbrev N : ℕ := (slot gM ![0, 0, 0] (inb3 0)).view.dmaCredit
theorem N_pos : 0 < N := View.dmaCredit_pos _ (by decide)

abbrev Buf3 (F : FTy → Type) [FloatOps F] : Type := Vec F S32x8x512 .bf16

/-- The elements of one slot of each scratch buffer of device `c`. -/
abbrev sP (c : Dev nD) (j : Fin 32) (f : Buf3 F) : sProp 𝕄 := ((c : Thread nD τ).loc cc0_scratch0 ↦[slotSet j]{fullShare} f)
abbrev gP (c : Dev nD) (j : Fin 32) (f : Buf3 F) : sProp 𝕄 := ((c : Thread nD τ).loc cc0_scratch1 ↦[slotSet j]{fullShare} f)
abbrev oP (c : Dev nD) (j : Fin 32) (q : PosShare TreeShare) (f : Buf3 F) : sProp 𝕄 := ((c : Thread nD τ).loc cc0_scratch2 ↦[slotSet j]{q} f)

/-- The first coordinate of an element, as a slot number. -/
abbrev slotOf (i : S32x8x512.Idx) : Fin 32 := ⟨(i 0).val, (i 0).isLt⟩

variable (Sb : Dev nD → Buf3 F)

/-- What device `d` holds after the first phase: slot `e` is what `e`'s partial product has in slot `d`. -/
def gath (d : Dev nD) : Buf3 F := fun i => Sb (slotOf i) (ValueIdx.ix3 (d : Fin 32) (i 1 : Fin 8) (i 2 : Fin 512))

/-- What every device holds after the second phase: slot `e` is device `e`'s reduction. -/
def full : Buf3 F := fun i => k0_pay55 (gath Sb (slotOf i)) (ValueIdx.ix3 (0 : Fin 1) (i 1 : Fin 8) (i 2 : Fin 512))

/-! ## The schedule -/

/-- With its signal device `e` hands device `c` the two slots on `e` that `c` writes. -/
def barPay (c e : Dev nD) : sProp 𝕄 :=
  iprop((∃ f, gP e c f) ∗ (∃ f, oP e c fullShare f) ∗ reached ER (ownC e 1 c) 0 ∗ reached ER (ownC e 3 c) 0)
/-- A first-phase copy that has left gives its slot back. -/
def outPay1 (c : Dev nD) (j : Fin 32) : sProp 𝕄 := if h : j.val < 31 then sP c (ahead c (stepAt ⟨j.val, h⟩)) (Sb c) else iprop(emp)
/-- A second-phase copy that has left gives back its share of the slot. -/
def outPay2 (c : Dev nD) (j : Fin 32) : sProp 𝕄 := if h : j.val < 31 then oP c c (shareTok fullShare 31 ⟨j.val, h⟩) (full Sb) else iprop(emp)
/-- A first-phase arrival. -/
def inPay1 (c e : Dev nD) : sProp 𝕄 := gP c e (gath Sb c)
/-- A second-phase arrival. -/
def inPay2 (c e : Dev nD) : sProp 𝕄 := oP c e fullShare (full Sb)

/-- Who pays each semaphore of device `c`. -/
def payers (c : Dev nD) : Role → Finset (Dev nD)
  | .bar => Finset.univ.erase c
  | .own 0 j => if j.val < 31 then {c} else ∅
  | .own 1 j => if j = c then ∅ else {j}
  | .own 2 j => if j.val < 31 then {c} else ∅
  | .own 3 j => if j = c then ∅ else {j}
  | .other => ∅

/-- What device `e`'s payment hands to device `c`. -/
def pays (c e : Dev nD) : Role → sProp 𝕄
  | .bar => barPay c e
  | .own 0 j => outPay1 Sb c j
  | .own 1 _ => inPay1 Sb c e
  | .own 2 j => outPay2 Sb c j
  | .own 3 _ => inPay2 Sb c e
  | .other => iprop(emp)

def xRd : Rounds.Schedule (GSem nD τ sig) (Dev nD) 𝕄 where
  duties g r := if r = 0 ∧ g.1.2 = .tc then payers g.1.1 (role g.2) else ∅
  unitless _ := False
  amount g _ _ := if role g.2 = .bar then 1 else N
  payload g _ e := pays Sb g.1.1 e (role g.2)
  amount_pos g _ _ _ := by
    by_cases h : role g.2 = .bar
    · rw [if_pos h]; exact Nat.one_pos
    · rw [if_neg h]; exact N_pos

theorem pays_storable (c e : Dev nD) (ro : Role) : BI.Storable (upEmb : UEmb _ 𝕄) (pays Sb c e ro) := by
  match ro with
  | .bar => show BI.Storable _ (barPay c e); unfold barPay; infer_instance
  | .own 0 j => show BI.Storable _ (outPay1 Sb c j); unfold outPay1; split <;> infer_instance
  | .own 1 _ => show BI.Storable _ (inPay1 Sb c e); unfold inPay1; infer_instance
  | .own 2 j => show BI.Storable _ (outPay2 Sb c j); unfold outPay2; split <;> infer_instance
  | .own 3 _ => show BI.Storable _ (inPay2 Sb c e); unfold inPay2; infer_instance
  | .other => show BI.Storable _ (iprop(emp) : sProp 𝕄); infer_instance

instance xRd_payload_storable (g : GSem nD τ sig) (r : ℕ) (d : Dev nD) : BI.Storable (upEmb : UEmb _ 𝕄) ((xRd Sb).payload g r d) :=
  pays_storable Sb g.1.1 d (role g.2)

section Tables

variable (c e : Dev nD)

theorem duties_bar : (xRd Sb).duties (barC c) 0 = Finset.univ.erase c := by
  dsimp only [xRd]; rw [if_pos ⟨rfl, rfl⟩]; rfl
theorem duties_own (k : Fin 4) (j : Fin 32) : (xRd Sb).duties (ownC c k j) 0 = payers c (.own k j) := by
  dsimp only [xRd]; rw [if_pos ⟨rfl, rfl⟩, role_own]
theorem duties_later (g : GSem nD τ sig) : ∀ r, 1 ≤ r → (xRd Sb).duties g r = ∅ := fun r hr => by
  dsimp only [xRd]; rw [if_neg (fun h => by omega)]

theorem amount_bar : (xRd Sb).amount (barC c) 0 e = 1 := by dsimp only [xRd]; exact if_pos rfl
theorem amount_own (k : Fin 4) (j : Fin 32) : (xRd Sb).amount (ownC c k j) 0 e = N := by
  dsimp only [xRd]; rw [role_own]; exact if_neg (fun h => by cases h)

theorem expect_bar : (xRd Sb).expect (barC c) 0 = 31 := by
  unfold Schedule.expect Schedule.amountOf
  rw [duties_bar, Finset.sum_congr rfl fun e _ => amount_bar Sb c e, Finset.sum_const, smul_eq_mul, mul_one,
    Finset.card_erase_of_mem (Finset.mem_univ _)]
  rfl
theorem expect_own (k : Fin 4) (j : Fin 32) (e : Dev nD) (h : payers c (.own k j) = {e}) : (xRd Sb).expect (ownC c k j) 0 = N := by
  unfold Schedule.expect Schedule.amountOf
  rw [duties_own, h, Finset.sum_singleton, amount_own]

theorem payload_bar : (xRd Sb).payload (barC c) 0 e = barPay c e := rfl
theorem payload_own (k : Fin 4) (j : Fin 32) : (xRd Sb).payload (ownC c k j) 0 e = pays Sb c e (.own k j) := by
  dsimp only [xRd]; rw [role_own]

theorem rest_bar : bigSep ((xRd Sb).duties (barC c) 0 \ ∅) (fun e => (xRd Sb).payload (barC c) 0 e)
    = bigSep (Finset.univ.erase c) fun e => (barPay c e : sProp 𝕄) := by
  rw [Finset.sdiff_empty, duties_bar]; rfl
theorem rest_own (k : Fin 4) (j : Fin 32) (e : Dev nD) (h : payers c (.own k j) = {e}) :
    bigSep ((xRd Sb).duties (ownC c k j) 0 \ ∅) (fun u => (xRd Sb).payload (ownC c k j) 0 u) = pays Sb c e (.own k j) := by
  rw [Finset.sdiff_empty, duties_own, h, bigSep_singleton, payload_own]

theorem payers_in1 (h : e ≠ c) : payers c (.own 1 e) = {e} := if_neg h
theorem payers_in2 (h : e ≠ c) : payers c (.own 3 e) = {e} := if_neg h
theorem payers_out1 (o : Fin 31) : payers c (.own 0 (o.castLE (by decide))) = {c} := if_pos o.isLt
theorem payers_out2 (o : Fin 31) : payers c (.own 2 (o.castLE (by decide))) = {c} := if_pos o.isLt

end Tables

/-! ## What each core owes at launch; the levels -/

/-- One barrier unit for every device of a list but `c`. -/
def owB (c : Dev nD) : List (Dev nD) → CellTallies nD τ sig Unit
  | [] => 0
  | e :: l => if c ≠ e then owB c l + tallyAt (barC e) () 1 else owB c l
/-- One arrival in array `k`, at `c`'s slot, for every device of a list. -/
def owX (k : Fin 4) (c : Dev nD) : List (Dev nD) → CellTallies nD τ sig Unit
  | [] => 0
  | e :: l => owX k c l + tallyAt (ownC e k c) () N

def O₀ (c : Dev nD) : CellTallies nD τ sig Unit := owX 3 c (others c) + owX 1 c (others c) + owB c allDevs

def L (g : GSem nD τ sig) : Finset Unit := if g.1.2 = .tc then {()} else ∅
def lvR : Role → ℕ
  | .bar => 1
  | .own 1 _ => 2
  | .own 3 _ => 3
  | _ => 0
/-- Barriers below first-phase arrivals below second-phase arrivals; all else at the bottom. -/
def lv (g : GSem nD τ sig) (_ : Unit) : ℕ := lvR (role g.2)

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {u u' : Unit} {n : ℕ} (h : 0 < (tallyAt g' u' n : CellTallies nD τ sig Unit) g u) : g = g' := by
  rw [tallyAt_apply] at h
  by_cases hg : g = g' ∧ u = u'
  · exact hg.1
  · rw [if_neg hg] at h; exact absurd h (Nat.lt_irrefl 0)

theorem add_tally_pos {A B : CellTallies nD τ sig Unit} {g : GSem nD τ sig} {u : Unit} (h : 0 < (A + B) g u) : 0 < A g u ∨ 0 < B g u := by
  rw [Pi.add_apply, Finsupp.add_apply] at h
  exact Nat.add_pos_iff_pos_or_pos.mp h

theorem owX_pos {k : Fin 4} {c : Dev nD} {g : GSem nD τ sig} {u : Unit} : ∀ {l : List (Dev nD)}, 0 < owX k c l g u → ∃ e : Dev nD, g = ownC e k c
  | [], h => absurd h (Nat.lt_irrefl 0)
  | e :: l, h => (add_tally_pos h).elim (fun h => owX_pos h) fun h => ⟨e, tally_pos h⟩
theorem owB_pos {c : Dev nD} {g : GSem nD τ sig} {u : Unit} : ∀ {l : List (Dev nD)}, 0 < owB c l g u → ∃ e : Dev nD, g = barC e
  | [], h => absurd h (Nat.lt_irrefl 0)
  | e :: l, h => by
    unfold owB at h
    split at h
    · exact (add_tally_pos h).elim (fun h => owB_pos h) fun h => ⟨e, tally_pos h⟩
    · exact owB_pos h

theorem lv_own (e : Dev nD) (k : Fin 4) (j : Fin 32) (u : Unit) : lv (ownC e k j) u = lvR (.own k j) := by
  unfold lv; rw [role_own]

/-- Whatever is still owed lies above level `n`: a wait at level at most `n` is allowed. -/
theorem mayWait (c : Dev nD) (sm : SemLoc sig) (n : ℕ) (hs : lvR (role sm) ≤ n) (O : CellTallies nD τ sig Unit)
    (hO : ∀ g u, 0 < O g u → ∃ (e : Dev nD) (k : Fin 4) (j : Fin 32), g = ownC e k j ∧ n < lvR (.own k j)) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by
      obtain ⟨e, k, j, rfl, -⟩ := hO g u hg
      rw [L_tc]; exact Finset.mem_singleton_self _)
    (fun p hp => by rw [Finset.mem_singleton.mp hp]; exact hs)
    (fun g u hg => by
      obtain ⟨e, k, j, rfl, h⟩ := hO g u hg
      rw [lv_own]; exact h)

theorem mayWait_bar (c : Dev nD) : (levAts L lv : sProp 𝕄) ⊢ MayWait (c : Thread nD τ) (.reg barS) () (owX 3 c (others c) + owX 1 c (others c)) :=
  mayWait c _ 1 (Nat.le_refl _) _ fun g u h => (add_tally_pos h).elim
    (fun h => let ⟨e, he⟩ := owX_pos h; ⟨e, 3, c, he, (by decide : 1 < 3)⟩) fun h => let ⟨e, he⟩ := owX_pos h; ⟨e, 1, c, he, (by decide : 1 < 2)⟩
theorem mayWait_in1 (c e : Dev nD) : (levAts L lv : sProp 𝕄) ⊢ MayWait (c : Thread nD τ) (.dma (dsem 1 e)) () (owX 3 c (others c)) :=
  mayWait c _ 2 (by rw [role_own]; exact Nat.le_refl _) _ fun g u h => let ⟨e, he⟩ := owX_pos h; ⟨e, 3, c, he, (by decide : 2 < 3)⟩

theorem O₀_pos {c : Dev nD} {g : GSem nD τ sig} {u : Unit} (h : 0 < O₀ c g u) : u ∈ L g ∧ 0 < lv g u := by
  unfold O₀ at h
  rcases add_tally_pos h with h | h
  · rcases add_tally_pos h with h | h
    · obtain ⟨e, rfl⟩ := owX_pos h
      exact ⟨by rw [L_tc]; exact Finset.mem_singleton_self _, by rw [lv_own]; exact (by decide : 0 < 3)⟩
    · obtain ⟨e, rfl⟩ := owX_pos h
      exact ⟨by rw [L_tc]; exact Finset.mem_singleton_self _, by rw [lv_own]; exact (by decide : 0 < 2)⟩
  · obtain ⟨e, rfl⟩ := owB_pos h
    exact ⟨by rw [L_tc]; exact Finset.mem_singleton_self _, (by decide : 0 < 1)⟩

end Cert.KernelIdeal.A2A

end
-- ==== Proof.Steps.lean ====
/- One rule for each family of operations the body repeats (signals, copies, waits), and the rule for a family run over a
   list. -/
module

public import proofs.«01_k».proof.Proof.Sched

@[expose] public section

noncomputable section

namespace Cert.KernelIdeal.A2A

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.Transfers (shareTok shareDrop)

variable {F : FTy → Type} [FloatOps F]

local notation "𝕄" => MT nD τ sig Unit (Elt F) ℕ UU ℕ

abbrev 𝒱₀ : Variants := Variants.none

/-- The weakest precondition of a stretch of the body on device `c`. -/
abbrev WP (c : Dev nD) (p : PU F) (Kt : PUnit → sProp 𝕄) : sProp 𝕄 :=
  wp frame (wpE (defs₀ (F := F)) 𝒱₀ (c : Thread nD τ) none) Set.univ p Kt

variable (Sb : Dev nD → Buf3 F)

/-! ## The cells' names -/

/-- Every cell of the exchange: the barriers, and the four arrays of every device. -/
def barEmb : Dev nD ↪ GSem nD τ sig := ⟨fun c => barC c, fun _ _ h => congrArg (fun g : GSem nD τ sig => g.1.1) h⟩
theorem dsem_inj : Function.Injective fun kj : Fin 4 × Fin 32 => (SemLoc.dma (dsem kj.1 kj.2) : SemLoc sig) := fun a b h => by
  have h' := congrArg role h
  simp only [role_own] at h'
  injection h' with h1 h2
  exact Prod.ext h1 h2
def ownEmb : Dev nD × (Fin 4 × Fin 32) ↪ GSem nD τ sig :=
  ⟨fun x => ownC x.1 x.2.1 x.2.2, fun _ _ h => Prod.ext (congrArg (fun g : GSem nD τ sig => g.1.1) h) (dsem_inj (congrArg Prod.snd h))⟩
abbrev barCells : Finset (GSem nD τ sig) := Finset.univ.map barEmb
abbrev ownCells : Finset (GSem nD τ sig) := Finset.univ.map ownEmb

theorem bar_mem (c : Dev nD) : barC c ∈ (barCells ∪ ownCells : Finset (GSem nD τ sig)) :=
  Finset.mem_union_left _ (Finset.mem_map_of_mem barEmb (Finset.mem_univ c))
theorem own_mem (c : Dev nD) (k : Fin 4) (j : Fin 32) : ownC c k j ∈ (barCells ∪ ownCells : Finset (GSem nD τ sig)) :=
  Finset.mem_union_right _ (Finset.mem_map_of_mem ownEmb (Finset.mem_univ (c, (k, j))))

/-- All the cells' invariants, and the levels. -/
def know (κ : GSem nD τ sig → ℕ) : sProp 𝕄 :=
  iprop((bigSep (barCells ∪ ownCells) fun g => cellInv ER (xRd Sb) (κ g) g) ∗ levAts L lv)

instance know_persistent (κ : GSem nD τ sig → ℕ) : BI.Persistent (know Sb κ) := by unfold know; infer_instance

theorem know_bar (κ : GSem nD τ sig → ℕ) (c : Dev nD) : know Sb κ ⊢ cellInv ER (xRd Sb) (κ (barC c)) (barC c) := by
  unfold know; iintro ⟨#H, -⟩
  iapply (show (bigSep (barCells ∪ ownCells) fun g => (cellInv ER (xRd Sb) (κ g) g : sProp 𝕄)) ⊢ cellInv ER (xRd Sb) (κ (barC c)) (barC c) from bigSep_elim (bar_mem c)); iexact H
theorem know_own (κ : GSem nD τ sig → ℕ) (c : Dev nD) (k : Fin 4) (j : Fin 32) :
    know Sb κ ⊢ cellInv ER (xRd Sb) (κ (ownC c k j)) (ownC c k j) := by
  unfold know; iintro ⟨#H, -⟩
  iapply (show (bigSep (barCells ∪ ownCells) fun g => (cellInv ER (xRd Sb) (κ g) g : sProp 𝕄)) ⊢ cellInv ER (xRd Sb) (κ (ownC c k j)) (ownC c k j) from bigSep_elim (own_mem c k j)); iexact H
theorem know_lev (κ : GSem nD τ sig → ℕ) (M : sProp 𝕄) (h : (levAts L lv : sProp 𝕄) ⊢ M) : know Sb κ ⊢ M := by
  unfold know; iintro ⟨-, #H⟩; iapply h; iexact H

variable (κ : GSem nD τ sig → ℕ)

/-- What rides along a family: the cells, and what the core still owes. -/
def ride (c : Dev nD) (O : CellTallies nD τ sig Unit) : sProp 𝕄 := iprop(know Sb κ ∗ ∃ W, owes (c : Thread nD τ) O W)

/-! ## A family over a list -/

theorem wp_seqs {α : Type} (c : Dev nD) (f : α → PU F) (A B : α → sProp 𝕄) (I : List α → sProp 𝕄) (k : PU F) (Kt : PUnit → sProp 𝕄) :
    ∀ l : List α, (∀ a ∈ l, ∀ l' k', iprop(A a ∗ I (a :: l') ∗ ((B a ∗ I l') -∗ WP c k' Kt)) ⊢ WP c (Prog.bind (f a) fun _ => k') Kt) →
      iprop(bigSepL l A ∗ I l ∗ ((bigSepL l B ∗ I []) -∗ WP c k Kt)) ⊢ WP c (seqs f k l) Kt
  | [], _ => by
    rw [bigSepL_nil, bigSepL_nil]
    unfold seqs
    iintro ⟨-, HI, Hk⟩
    iapply Hk
    isplitr; · iempintro
    iexact HI
  | a :: l, h => by
    rw [bigSepL_cons', bigSepL_cons']
    have ih := wp_seqs c f A B I k Kt l fun a ha => h a (List.mem_cons_of_mem _ ha)
    refine BIBase.Entails.trans ?_ (h a List.mem_cons_self l (seqs f k l))
    iintro ⟨⟨HA, HL⟩, HI, Hk⟩
    isplitl [HA]; · iexact HA
    isplitl [HI]; · iexact HI
    iintro ⟨HB, HI⟩
    iapply ih
    isplitl [HL]; · iexact HL
    isplitl [HI]; · iexact HI
    iintro ⟨HBs, HI⟩
    iapply Hk
    isplitl [HB HBs]
    · isplitl [HB]; · iexact HB
      iexact HBs
    iexact HI

/-! ## The barrier's signals -/

/-- What signalling device `e` takes. -/
def sigA (c e : Dev nD) : sProp 𝕄 :=
  if e = c then iprop(emp) else iprop(dutyTok ER (barC e) 0 c ∗ reached ER (barC e) 0 ∗ barPay e c)

theorem wp_sigs (c : Dev nD) (R : CellTallies nD τ sig Unit) (k : PU F) (Kt : PUnit → sProp 𝕄) : ∀ l : List (Dev nD),
    iprop(bigSepL l (sigA c) ∗ ride Sb κ c (R + owB c l) ∗ (ride Sb κ c R -∗ WP c k Kt)) ⊢ WP c (sigs c k l) Kt
  | [] => by
    rw [bigSepL_nil]
    unfold sigs owB
    rw [add_zero]
    iintro ⟨-, HI, Hk⟩
    iapply Hk; iexact HI
  | e :: l => by
    rw [bigSepL_cons']
    have ih := wp_sigs c R k Kt l
    unfold sigs owB
    by_cases hc : condN c (wn e) = 1#1
    · have hne : c ≠ e := (condN_iff c e).mp hc
      have hdev : (⟨devC (wn e), devC_lt e⟩ : Dev nD) = e := Fin.ext (devC_eq e)
      rw [dif_pos hc, if_pos hne, hdev]
      unfold sigA ride
      rw [if_neg hne.symm]
      show _ ⊢ WP c (.op (.semSignal (e : Thread nD τ) barS 1) fun _ => sigs c k l) Kt
      iintro ⟨⟨⟨Htok, Hr, Hp⟩, HL⟩, ⟨#HK, ⟨%W, HO⟩⟩, Hk⟩
      iapply (Rounds.wp_signal 𝒱₀ ER (xRd Sb) (c : Thread nD τ) none (dst := (e : Thread nD τ)) (sem := barS) (r := 0) (d := c) (κ := κ (barC e))
        (by rw [duties_bar]; exact Finset.mem_erase.mpr ⟨hne, Finset.mem_univ _⟩) (amount_bar Sb e c) () (R + owB c l) (by rw [add_assoc]))
        $$ [HO Htok Hr Hp]
      · isplitr; · iapply (know_bar Sb κ e); iexact HK
        isplitl [HO]; · iexact HO
        isplitl [Htok]; · iexact Htok
        isplitl [Hp]; · rw [payload_bar]; iexact Hp
        iexact Hr
      iintro HO
      iapply ih
      isplitl [HL]; · iexact HL
      isplitl [HO]
      · unfold ride; isplitr; · iexact HK
        iexists W; iexact HO
      iexact Hk
    · have he : c = e := by
        by_contra h; exact hc ((condN_iff c e).mpr h)
      rw [dif_neg hc, if_neg (fun h => h he)]
      iintro ⟨⟨-, HL⟩, HR, Hk⟩
      iapply ih
      isplitl [HL]; · iexact HL
      isplitl [HR]; · iexact HR
      iexact Hk

/-! ## The copies -/

/-- A place in the order, as one of a semaphore array's 32. -/
abbrev up (o : Fin 31) : Fin 32 := o.castLE (by decide)

/-- A first-phase landing: the destination's slot holds what the source's partial product has for it. -/
theorem land1 (c e : Dev nD) (f : Buf3 F) :
    (((e : Thread nD τ).loc cc0_scratch1 ↦[slotSet c]{fullShare}
      ((slot gM ![c.val, 0, 0] (inb3 c)).view.write (Elt F) f ((slot sM ![e.val, 0, 0] (inb3 e)).view.read (Elt F) (Sb c)) Finset.univ)) : sProp 𝕄)
      = gP e c (gath Sb e) :=
  pointsTo_congr fun i hi => by
    obtain ⟨k, rfl⟩ := exists_at3 hi
    refine (write_gM c f _ k).trans ((read_sM e (Sb c) k).trans ?_)
    rfl

/-- A second-phase landing. -/
theorem land2 (c e : Dev nD) (f g : Buf3 F) :
    (((e : Thread nD τ).loc cc0_scratch2 ↦[slotSet c]{fullShare}
      ((slot oM ![c.val, 0, 0] (inb3 c)).view.write (Elt F) f ((slot oM ![c.val, 0, 0] (inb3 c)).view.read (Elt F) g) Finset.univ)) : sProp 𝕄)
      = oP e c fullShare g :=
  pointsTo_congr fun i hi => by
    obtain ⟨k, rfl⟩ := exists_at3 hi
    exact (write_oM c f _ k).trans (read_oM c g k)

/-- What a copy takes besides its elements: its two duties' tokens and that both rounds are reached. -/
def duties2 (c e : Dev nD) (k k' : Fin 4) (o : Fin 31) : sProp 𝕄 :=
  iprop(dutyTok ER (ownC c k (up o)) 0 c ∗ reached ER (ownC c k (up o)) 0
    ∗ dutyTok ER (ownC e k' c) 0 c ∗ reached ER (ownC e k' c) 0)

theorem wp_copy1 (c e : Dev nD) (o : Fin 31) (he : e ≠ c) (ho : ahead c (stepAt o) = e) (f : Buf3 F) (W : Waits sig Unit) (R : CellTallies nD τ sig Unit)
    {e' : Dev nD} (h₁ : e' = e) {src dst : Memref sig .tc .vmem S8x512 .bf16}
    (h₂ : src = slot sM ![e.val, 0, 0] (inb3 e)) (h₃ : dst = slot gM ![c.val, 0, 0] (inb3 c)) {sS sR : DmaSem sig}
    (h₄ : sS = dsem 0 (up o)) (h₅ : sR = dsem 1 c) {hsc : dst.view.ref.isScScratch = false}
    {hsrc : src.view.WordExact} {hdst : dst.view.WordExact}
    {hsem : DmaTarget.Typed .vmem (.dma sR) (.remote (Dev.tc e' : Thread nD τ) dst (.dma sS) hsc)} (k : PU F) (Kt : PUnit → sProp 𝕄) :
    iprop((duties2 c e 0 1 o ∗ sP c e (Sb c) ∗ gP e c f) ∗ (know Sb κ ∗ owes (c : Thread nD τ) (R + tallyAt (ownC e 1 c) () N) W)
        ∗ ((cred (tallyAt (ownC c 0 (up o)) () N) ∗ owes (c : Thread nD τ) R W) -∗ WP c k Kt))
      ⊢ WP c (.op (.enqueueDma src (.remote (Dev.tc e' : Thread nD τ) dst (.dma sS) hsc) (.dma sR) hsrc hdst hsem) fun _ => k) Kt := by
  subst h₁ h₂ h₃ h₄ h₅
  unfold duties2
  iintro ⟨⟨⟨Ht1, Hr1, Ht2, Hr2⟩, Hs, Hg⟩, ⟨#HK, HO⟩, Hk⟩
  iapply (Rounds.wp_send_pointsTo 𝒱₀ ER (xRd Sb) (c : Thread nD τ) none (c' := (e' : Thread nD τ)) (src := slot sM ![e'.val, 0, 0] (inb3 e'))
      (dst := slot gM ![c.val, 0, 0] (inb3 c))
      (sS := .dma (dsem 0 (up o))) (sem := .dma (dsem 1 c)) (q := fullShare) (fs := Sb c)
      (κ₁ := κ (ownC c 0 (up o))) (κ₂ := κ (ownC e' 1 c))
      (r₁ := 0) (r₂ := 0) (d₁ := c) (d₂ := c) (fd := f)
      (by rw [duties_own, payers_out1]; exact Finset.mem_singleton_self _) (by rw [duties_own, payers_in1 _ _ (Ne.symm he)]; exact Finset.mem_singleton_self _)
      () () N rfl (amount_own Sb c c _ _) (amount_own Sb e' c _ _) R rfl (W := W)
      (by
        rw [payload_own, set_sM]
        show _ ⊢ outPay1 Sb c (up o)
        unfold outPay1
        rw [dif_pos (show (up o).val < 31 from o.isLt)]
        rw [show (⟨(up o).val, o.isLt⟩ : Fin 31) = o from rfl, ho])
      (by
        rw [payload_own, set_gM]
        exact Entails.of_eq (land1 Sb c e' f))) $$ [Hs Hg HO Ht1 Hr1 Ht2 Hr2]
  · isplitr; · iapply (know_own Sb κ c 0 (up o)); iexact HK
    isplitr; · iapply (know_own Sb κ e' 1 c); iexact HK
    isplitl [Hs]; · rw [set_sM]; iexact Hs
    isplitl [Hg]; · rw [set_gM]; iexact Hg
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexact HO

theorem wp_copy2 (c e : Dev nD) (o : Fin 31) (he : e ≠ c) (f : Buf3 F) (W : Waits sig Unit) (R : CellTallies nD τ sig Unit)
    {e' : Dev nD} (h₁ : e' = e) {src dst : Memref sig .tc .vmem S8x512 .bf16}
    (h₂ : src = slot oM ![c.val, 0, 0] (inb3 c)) (h₃ : dst = slot oM ![c.val, 0, 0] (inb3 c)) {sS sR : DmaSem sig}
    (h₄ : sS = dsem 2 (up o)) (h₅ : sR = dsem 3 c) {hsc : dst.view.ref.isScScratch = false}
    {hsrc : src.view.WordExact} {hdst : dst.view.WordExact}
    {hsem : DmaTarget.Typed .vmem (.dma sR) (.remote (Dev.tc e' : Thread nD τ) dst (.dma sS) hsc)} (k : PU F) (Kt : PUnit → sProp 𝕄) :
    iprop((duties2 c e 2 3 o ∗ oP c c (shareTok fullShare 31 o) (full Sb) ∗ oP e c fullShare f)
        ∗ (know Sb κ ∗ owes (c : Thread nD τ) (R + tallyAt (ownC e 3 c) () N) W)
        ∗ ((cred (tallyAt (ownC c 2 (up o)) () N) ∗ owes (c : Thread nD τ) R W) -∗ WP c k Kt))
      ⊢ WP c (.op (.enqueueDma src (.remote (Dev.tc e' : Thread nD τ) dst (.dma sS) hsc) (.dma sR) hsrc hdst hsem) fun _ => k) Kt := by
  subst h₁ h₂ h₃ h₄ h₅
  unfold duties2
  iintro ⟨⟨⟨Ht1, Hr1, Ht2, Hr2⟩, Hs, Hg⟩, ⟨#HK, HO⟩, Hk⟩
  iapply (Rounds.wp_send_pointsTo 𝒱₀ ER (xRd Sb) (c : Thread nD τ) none (c' := (e' : Thread nD τ)) (src := slot oM ![c.val, 0, 0] (inb3 c))
      (dst := slot oM ![c.val, 0, 0] (inb3 c))
      (sS := .dma (dsem 2 (up o))) (sem := .dma (dsem 3 c)) (q := shareTok fullShare 31 o) (fs := full Sb)
      (κ₁ := κ (ownC c 2 (up o))) (κ₂ := κ (ownC e' 3 c))
      (r₁ := 0) (r₂ := 0) (d₁ := c) (d₂ := c) (fd := f)
      (by rw [duties_own, payers_out2]; exact Finset.mem_singleton_self _) (by rw [duties_own, payers_in2 _ _ (Ne.symm he)]; exact Finset.mem_singleton_self _)
      () () N rfl (amount_own Sb c c _ _) (amount_own Sb e' c _ _) R rfl (W := W)
      (by
        rw [payload_own, set_oM]
        show _ ⊢ outPay2 Sb c (up o)
        unfold outPay2
        rw [dif_pos (show (up o).val < 31 from o.isLt)]
        exact .rfl)
      (by
        rw [payload_own, set_oM]
        exact Entails.of_eq (land2 c e' f (full Sb)))) $$ [Hs Hg HO Ht1 Hr1 Ht2 Hr2]
  · isplitr; · iapply (know_own Sb κ c 2 (up o)); iexact HK
    isplitr; · iapply (know_own Sb κ e' 3 c); iexact HK
    isplitl [Hs]; · rw [set_oM]; iexact Hs
    isplitl [Hg]; · rw [set_oM]; iexact Hg
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexact HO

/-! ## The waits -/

theorem close (g : GSem nD τ sig) (R : ℕ) (hR : 1 ≤ R) :
    iprop(cellInv ER (xRd Sb) (κ g) g ∗ atPos ER g R ∅ 0) ⊢ (|={Set.univ}=> semVal g 0 : sProp 𝕄) :=
  Rounds.cell_close ER (xRd Sb) (Set.mem_univ (κ g)) id fun r hr => duties_later Sb g r (hR.trans hr)

/-- A wait for the one arrival on a semaphore: what it hands over, and the semaphore's counter, at zero for good. -/
theorem wp_wait1 (c e : Dev nD) (k : Fin 4) (j : Fin 32) (hp : payers c (.own k j) = {e}) (O : CellTallies nD τ sig Unit) (W : Waits sig Unit)
    (hO : (levAts L lv : sProp 𝕄) ⊢ MayWait (c : Thread nD τ) (.dma (dsem k j)) () O)
    {s : DmaSem sig} (h₁ : s = dsem k j) {src dst : Memref sig .tc .vmem S8x512 .bf16} (h₂ : dst.view.dmaCredit = N)
    {hsrc : src.view.WordExact} {hdst : dst.view.WordExact} (k' : PU F) (Kt : PUnit → sProp 𝕄) :
    iprop((cred (tallyAt (ownC c k j) () N) ∗ atPos ER (ownC c k j) 0 ∅ 0) ∗ (know Sb κ ∗ owes (c : Thread nD τ) O W)
        ∗ (((semVal (ownC c k j) 0 ∗ pays Sb c e (.own k j)) ∗ ∃ W, owes (c : Thread nD τ) O W) -∗ WP c k' Kt))
      ⊢ WP c (.op (.waitDma2 s src dst hsrc hdst) fun _ => k') Kt := by
  subst h₁
  have hm := know_lev Sb κ _ hO
  iintro ⟨⟨Hc, Hat⟩, ⟨#HK, HO⟩, Hk⟩
  iapply (Rounds.wp_wait_rest_token 𝒱₀ ER (xRd Sb) (c : Thread nD τ) none (κ := κ (ownC c k j))
      (wpE_waitDma2_eq (src := src) (dst := dst) 𝒱₀ (c : Thread nD τ) none Set.univ) (Set.mem_univ _) () (O := O) (W := W) (R := 0) (m := 0) (T := ∅)
      ((Nat.zero_add _).trans (h₂.trans (expect_own Sb c k j e hp).symm))) $$ [Hc HO Hat]
  · isplitr; · iapply (know_own Sb κ c k j); iexact HK
    isplitl [Hc]; · rw [h₂]; iexact Hc
    isplitl [HO]; · iexact HO
    isplitr; · iapply hm; iexact HK
    iexact Hat
  iintro ⟨HO, Hat, -, Hpay⟩
  ihave Hp := (Entails.of_eq (rest_own Sb c k j e hp)) $$ Hpay
  imod (close Sb κ (ownC c k j) (0 + 1) (Nat.le_refl _)) $$ [Hat] with Hv
  · isplitr; · iapply (know_own Sb κ c k j); iexact HK
    iexact Hat
  iapply Hk
  isplitl [Hv Hp]
  · isplitl [Hv]; · iexact Hv
    iexact Hp
  iexists _; iexact HO

/-- The barrier's wait: the slots this device writes on every other device. -/
theorem wp_waitB (c : Dev nD) (O : CellTallies nD τ sig Unit) (W : Waits sig Unit)
    (hO : (levAts L lv : sProp 𝕄) ⊢ MayWait (c : Thread nD τ) (.reg barS) () O) (k' : PU F) (Kt : PUnit → sProp 𝕄) :
    iprop((cred (tallyAt (barC c) () 31) ∗ atPos ER (barC c) 0 ∅ 0) ∗ (know Sb κ ∗ owes (c : Thread nD τ) O W)
        ∗ (((semVal (barC c) 0 ∗ bigSep (Finset.univ.erase c) fun e => barPay c e) ∗ ∃ W, owes (c : Thread nD τ) O W) -∗ WP c k' Kt))
      ⊢ WP c (.op (.semWait barS 31) fun _ => k') Kt := by
  have hm := know_lev Sb κ _ hO
  iintro ⟨⟨Hc, Hat⟩, ⟨#HK, HO⟩, Hk⟩
  iapply (Rounds.wp_wait_rest_token 𝒱₀ ER (xRd Sb) (c : Thread nD τ) none (κ := κ (barC c))
      (wpE_semWait_eq 𝒱₀ (c : Thread nD τ) none Set.univ) (Set.mem_univ _) () (O := O) (W := W) (R := 0) (m := 0) (T := ∅)
      ((Nat.zero_add 31).trans (expect_bar Sb c).symm)) $$ [Hc HO Hat]
  · isplitr; · iapply (know_bar Sb κ c); iexact HK
    isplitl [Hc]; · iexact Hc
    isplitl [HO]; · iexact HO
    isplitr; · iapply hm; iexact HK
    iexact Hat
  iintro ⟨HO, Hat, -, Hpay⟩
  ihave Hp := (Entails.of_eq (rest_bar Sb c)) $$ Hpay
  imod (close Sb κ (barC c) (0 + 1) (Nat.le_refl _)) $$ [Hat] with Hv
  · isplitr; · iapply (know_bar Sb κ c); iexact HK
    iexact Hat
  iapply Hk
  isplitl [Hv Hp]
  · isplitl [Hv]; · iexact Hv
    iexact Hp
  iexists _; iexact HO

end Cert.KernelIdeal.A2A

end
-- ==== Proof.Seqs.lean ====
/- The families of copies and waits, each as a whole. -/
module

public import proofs.«01_k».proof.Proof.Steps

@[expose] public section

noncomputable section

namespace Cert.KernelIdeal.A2A

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (Sb : Dev nD → Buf3 F) (κ : GSem nD τ sig → ℕ)

/-- What is still owed to the devices of the steps left. -/
abbrev owL (k : Fin 4) (c : Dev nD) (l : List (Fin 31 × Fin 31)) : CellTallies nD τ sig Unit := owX k c (l.map fun x => ahead c x.2)

theorem order_step {x : Fin 31 × Fin 31} (h : x ∈ order) : stepAt x.1 = x.2 := by
  rw [order_eq] at h
  obtain ⟨o, -, rfl⟩ := List.mem_map.mp h
  rfl

/-- What the first phase's copy at one step takes. -/
def cpy1 (c : Dev nD) (x : Fin 31 × Fin 31) : sProp 𝕄 :=
  iprop(duties2 c (ahead c x.2) 0 1 x.1 ∗ sP c (ahead c x.2) (Sb c) ∗ ∃ f, gP (ahead c x.2) c f)
/-- What the second phase's copy at one step takes. -/
def cpy2 (c : Dev nD) (x : Fin 31 × Fin 31) : sProp 𝕄 :=
  iprop(duties2 c (ahead c x.2) 2 3 x.1 ∗ oP c c (shareTok fullShare 31 x.1) (full Sb) ∗ ∃ f, oP (ahead c x.2) c fullShare f)
/-- The right to one wait on an own semaphore. -/
def rt (c : Dev nD) (k : Fin 4) (j : Fin 32) : sProp 𝕄 := iprop(cred (tallyAt (ownC c k j) () N) ∗ atPos ER (ownC c k j) 0 ∅ 0)

theorem wp_send1s (c : Dev nD) (k : PU F) (Kt : PUnit → sProp 𝕄) :
    iprop(bigSepL order (cpy1 Sb c) ∗ ride Sb κ c (owX 3 c (others c) + owL 1 c order)
        ∗ ((bigSepL order (fun x => cred (tallyAt (ownC c 0 (up x.1)) () N)) ∗ ride Sb κ c (owX 3 c (others c) + owL 1 c [])) -∗ WP c k Kt))
      ⊢ WP c (seqs (send1 c) k order) Kt := by
  refine wp_seqs c (send1 c) (cpy1 Sb c) _ (fun l => ride Sb κ c (owX 3 c (others c) + owL 1 c l)) k Kt order ?_
  intro x hx l' k'
  unfold cpy1 ride
  iintro ⟨⟨Hd, Hs, %f, Hg⟩, ⟨#HK, %W, HO⟩, Hk⟩
  iapply (wp_copy1 Sb κ c (ahead c x.2) x.1 (ahead_ne c x.2) (by rw [order_step hx]) f W (owX 3 c (others c) + owL 1 c l')
    (devN_ahead c x.2) (slot3 sM c x.2) (slot2 gM c) (sem_at1 x.1) (sem_at2 c) k' Kt) $$ [Hd Hs Hg HO Hk]
  isplitl [Hd Hs Hg]
  · isplitl [Hd]; · iexact Hd
    isplitl [Hs]; · iexact Hs
    iexact Hg
  isplitl [HO]
  · isplitr; · iexact HK
    rw [add_assoc]; iexact HO
  iintro ⟨Hc, HO⟩
  iapply Hk
  isplitl [Hc]; · iexact Hc
  isplitr; · iexact HK
  iexists W; iexact HO

theorem wp_send2s (c : Dev nD) (k : PU F) (Kt : PUnit → sProp 𝕄) :
    iprop(bigSepL order (cpy2 Sb c) ∗ ride Sb κ c (owL 3 c order)
        ∗ ((bigSepL order (fun x => cred (tallyAt (ownC c 2 (up x.1)) () N)) ∗ ride Sb κ c (owL 3 c [])) -∗ WP c k Kt))
      ⊢ WP c (seqs (send2 c) k order) Kt := by
  refine wp_seqs c (send2 c) (cpy2 Sb c) _ (fun l => ride Sb κ c (owL 3 c l)) k Kt order ?_
  intro x hx l' k'
  unfold cpy2 ride
  iintro ⟨⟨Hd, Hs, %f, Hg⟩, ⟨#HK, %W, HO⟩, Hk⟩
  iapply (wp_copy2 Sb κ c (ahead c x.2) x.1 (ahead_ne c x.2) f W (owL 3 c l')
    (devN_ahead c x.2) (slot2 oM c) (slot2 oM c) (sem_at3 x.1) (sem_at4 c) k' Kt) $$ [Hd Hs Hg HO Hk]
  isplitl [Hd Hs Hg]
  · isplitl [Hd]; · iexact Hd
    isplitl [Hs]; · iexact Hs
    iexact Hg
  isplitl [HO]
  · isplitr; · iexact HK
    iexact HO
  iintro ⟨Hc, HO⟩
  iapply Hk
  isplitl [Hc]; · iexact Hc
  isplitr; · iexact HK
  iexists W; iexact HO

theorem wp_wait1s (c : Dev nD) (k : PU F) (Kt : PUnit → sProp 𝕄) :
    iprop(bigSepL order (fun x => rt c 1 (ahead c x.2)) ∗ ride Sb κ c (owX 3 c (others c))
        ∗ ((bigSepL order (fun x => iprop(semVal (ownC c 1 (ahead c x.2)) 0 ∗ inPay1 Sb c (ahead c x.2))) ∗ ride Sb κ c (owX 3 c (others c))) -∗ WP c k Kt))
      ⊢ WP c (seqs (wait1 c) k order) Kt := by
  refine wp_seqs c (wait1 c) (fun x => rt c 1 (ahead c x.2)) _ (fun _ => ride Sb κ c (owX 3 c (others c))) k Kt order ?_
  intro x hx l' k'
  unfold rt ride
  iintro ⟨HA, ⟨#HK, %W, HO⟩, Hk⟩
  iapply (wp_wait1 Sb κ c (ahead c x.2) 1 (ahead c x.2) (payers_in1 c _ (ahead_ne c x.2)) (owX 3 c (others c)) W (mayWait_in1 c _)
    (sem_at2' c x.2) (by rfl) k' Kt) $$ [HA HO Hk]
  isplitl [HA]; · iexact HA
  isplitl [HO]
  · isplitr; · iexact HK
    iexact HO
  iintro ⟨HB, HO⟩
  iapply Hk
  isplitl [HB]; · iexact HB
  isplitr; · iexact HK
  iexact HO

/-- Nothing is owed: any wait is allowed. -/
theorem mayWait_zero (c : Dev nD) (k : Fin 4) (j : Fin 32) : (levAts L lv : sProp 𝕄) ⊢ MayWait (c : Thread nD τ) (.dma (dsem k j)) () 0 :=
  mayWait c _ _ (Nat.le_refl _) _ fun g u h => absurd h (lt_irrefl _)

theorem wp_wait2s (c : Dev nD) (k : PU F) (Kt : PUnit → sProp 𝕄) :
    iprop(bigSepL order (fun x => rt c 3 (ahead c x.2)) ∗ ride Sb κ c 0
        ∗ ((bigSepL order (fun x => iprop(semVal (ownC c 3 (ahead c x.2)) 0 ∗ inPay2 Sb c (ahead c x.2))) ∗ ride Sb κ c 0) -∗ WP c k Kt))
      ⊢ WP c (seqs (wait2 c) k order) Kt := by
  refine wp_seqs c (wait2 c) (fun x => rt c 3 (ahead c x.2)) _ (fun _ => ride Sb κ c 0) k Kt order ?_
  intro x hx l' k'
  unfold rt ride
  iintro ⟨HA, ⟨#HK, %W, HO⟩, Hk⟩
  iapply (wp_wait1 Sb κ c (ahead c x.2) 3 (ahead c x.2) (payers_in2 c _ (ahead_ne c x.2)) 0 W (mayWait_zero c _ _)
    (sem_at4' c x.2) (by rfl) k' Kt) $$ [HA HO Hk]
  isplitl [HA]; · iexact HA
  isplitl [HO]
  · isplitr; · iexact HK
    iexact HO
  iintro ⟨HB, HO⟩
  iapply Hk
  isplitl [HB]; · iexact HB
  isplitr; · iexact HK
  iexact HO

theorem wp_waitSs (c : Dev nD) (k : PU F) (Kt : PUnit → sProp 𝕄) :
    iprop(bigSepL (List.finRange 31) (fun o => iprop(rt c 0 (up o) ∗ rt c 2 (up o))) ∗ ride Sb κ c 0
        ∗ ((bigSepL (List.finRange 31) (fun o => iprop((semVal (ownC c 0 (up o)) 0 ∗ outPay1 Sb c (up o)) ∗ (semVal (ownC c 2 (up o)) 0 ∗ outPay2 Sb c (up o))))
            ∗ ride Sb κ c 0) -∗ WP c k Kt))
      ⊢ WP c (seqs waitS k (List.finRange 31)) Kt := by
  refine wp_seqs c waitS _ _ (fun _ => ride Sb κ c 0) k Kt (List.finRange 31) ?_
  intro o _ l' k'
  unfold rt ride waitS
  iintro ⟨⟨HA, HA'⟩, ⟨#HK, %W, HO⟩, Hk⟩
  iapply (wp_wait1 Sb κ c c 0 (up o) (payers_out1 c o) 0 W (mayWait_zero c _ _) (sem_at1 o) (by rfl)
    (Prog.bind (Prog.lift (.waitDma2 (semAt cc0_scratch5 ![o.val] (inb1 o)) (slot oM ![o.val, 0, 0] (inb3' o)) (slot oM ![o.val, 0, 0] (inb3' o))
    (((Memref.isWhole_whole cc0_scratch2).wordExact_slice rfl _ (words3' o)).reshape _ _)
    (((Memref.isWhole_whole cc0_scratch2).wordExact_slice rfl _ (words3' o)).reshape _ _))) fun _ => k') Kt) $$ [HA HA' HO Hk]
  isplitl [HA]; · iexact HA
  isplitl [HO]
  · isplitr; · iexact HK
    iexact HO
  iintro ⟨HB, %W', HO⟩
  iapply (wp_wait1 Sb κ c c 2 (up o) (payers_out2 c o) 0 W' (mayWait_zero c _ _) (sem_at3 o) (by rfl) k' Kt) $$ [HA' HB HO Hk]
  isplitl [HA']; · iexact HA'
  isplitl [HO]
  · isplitr; · iexact HK
    iexact HO
  iintro ⟨HB', HO⟩
  iapply Hk
  isplitl [HB HB']
  · isplitl [HB]; · iexact HB
    iexact HB'
  isplitr; · iexact HK
  iexact HO

end Cert.KernelIdeal.A2A

end
-- ==== Proof.Lists.lean ====
/- Families over the other devices, in the order the body takes them; the slots of a scratch buffer one by one. -/
module

public import proofs.«01_k».proof.Proof.Seqs

@[expose] public section

noncomputable section

namespace Cert.KernelIdeal.A2A

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

section Lists

variable {M : Type} [URA M]

theorem bigSepL_sep {α : Type} (A B : α → sProp M) : ∀ l : List α,
    bigSepL l (fun x => iprop(A x ∗ B x)) ⊣⊢ iprop(bigSepL l A ∗ bigSepL l B)
  | [] => by
    rw [bigSepL_nil, bigSepL_nil, bigSepL_nil]
    exact ⟨by iintro -; isplitr <;> iempintro, by iintro -; iempintro⟩
  | a :: l => by
    rw [bigSepL_cons', bigSepL_cons', bigSepL_cons']
    have ih := bigSepL_sep A B l
    constructor
    · iintro ⟨⟨HA, HB⟩, HL⟩
      ihave HL := ih.1 $$ HL
      icases HL with ⟨HLA, HLB⟩
      isplitl [HA HLA]
      · isplitl [HA] <;> iassumption
      isplitl [HB] <;> iassumption
    · iintro ⟨⟨HA, HLA⟩, HB, HLB⟩
      isplitl [HA HB]
      · isplitl [HA] <;> iassumption
      iapply ih.2
      isplitl [HLA] <;> iassumption

/-- The other devices, in the order of the steps. -/
theorem bigSep_others (c : Dev nD) (Φ : Dev nD → sProp M) : bigSep (Finset.univ.erase c) Φ = bigSepL order fun x => Φ (ahead c x.2) := by
  rw [bigSep_eq_bigSepL_of_eq (others c) (others_set c).symm (others_nodup c) Φ]
  unfold others
  exact bigSepL_map _ _ _

/-- A device and the others. -/
theorem bigSep_devs (c : Dev nD) (Φ : Dev nD → sProp M) : bigSep Finset.univ Φ = iprop(Φ c ∗ bigSepL order fun x => Φ (ahead c x.2)) := by
  rw [bigSep_univ_at Φ c, bigSep_others]

/-- The places, in order. -/
theorem bigSepL_places (Φ : Fin 31 → sProp M) : (bigSepL order fun x => Φ x.1) = bigSepL (List.finRange 31) Φ := by
  rw [order_eq, bigSepL_map]

theorem bigSep_fin31 (Φ : Fin 31 → sProp M) : bigSep Finset.univ Φ = bigSepL order fun x => Φ x.1 := by
  rw [bigSepL_places]
  exact bigSep_univ_eq_bigSepL _ (by decide +kernel) (List.nodup_finRange 31) Φ

theorem bigSepL_allDevs (Φ : Dev nD → sProp M) : bigSepL allDevs Φ = bigSep Finset.univ Φ :=
  (bigSep_univ_eq_bigSepL _ (by decide +kernel) (by decide +kernel) Φ).symm

end Lists

/-! ## A scratch buffer by its slots -/

/-- The elements of every slot but one. -/
def restSet (c : Dev nD) : Finset S32x8x512.Idx := (Finset.univ.erase c).biUnion slotSet

theorem rest_disjoint (c : Dev nD) : Disjoint (slotSet c) (restSet c) := by
  unfold restSet
  rw [Finset.disjoint_biUnion_right]
  exact fun e he => slotSet_disjoint (Finset.ne_of_mem_erase he).symm

theorem rest_union (c : Dev nD) : slotSet c ∪ restSet c = (Finset.univ : Finset S32x8x512.Idx) := by
  unfold restSet
  rw [← Finset.biUnion_insert, Finset.insert_erase (Finset.mem_univ _)]
  exact slotSet_union

variable (c : Dev nD)

theorem sP_split (f : Buf3 F) : ((c : Thread nD τ).loc cc0_scratch0 ↦{fullShare} f : sProp 𝕄) = iprop(sP c c f ∗ bigSepL order fun x => sP c (ahead c x.2) f) := by
  rw [← bigSep_devs c fun e => (sP c e f : sProp 𝕄)]
  exact (congrArg (fun S => (((c : Thread nD τ).loc cc0_scratch0 ↦[S]{fullShare} f) : sProp 𝕄)) slotSet_union.symm).trans
    (pointsTo_biUnion (ℓ := (c : Thread nD τ).loc cc0_scratch0) Finset.univ slotSet fun _ _ _ _ h => slotSet_disjoint h)

theorem gP_split (f : Buf3 F) : ((c : Thread nD τ).loc cc0_scratch1 ↦{fullShare} f : sProp 𝕄) = iprop(gP c c f ∗ bigSepL order fun x => gP c (ahead c x.2) f) := by
  rw [← bigSep_devs c fun e => (gP c e f : sProp 𝕄)]
  exact (congrArg (fun S => (((c : Thread nD τ).loc cc0_scratch1 ↦[S]{fullShare} f) : sProp 𝕄)) slotSet_union.symm).trans
    (pointsTo_biUnion (ℓ := (c : Thread nD τ).loc cc0_scratch1) Finset.univ slotSet fun _ _ _ _ h => slotSet_disjoint h)

/-- The slots of the others, at any share. -/
theorem oP_rest (q : PosShare TreeShare) (f : Buf3 F) :
    ((c : Thread nD τ).loc cc0_scratch2 ↦[restSet c]{q} f : sProp 𝕄) = bigSepL order fun x => oP c (ahead c x.2) q f := by
  rw [← bigSep_others c fun e => (oP c e q f : sProp 𝕄)]
  exact pointsTo_biUnion (ℓ := (c : Thread nD τ).loc cc0_scratch2) (Finset.univ.erase c) slotSet fun _ _ _ _ h => slotSet_disjoint h

theorem oP_split (q : PosShare TreeShare) (f : Buf3 F) :
    ((c : Thread nD τ).loc cc0_scratch2 ↦{q} f : sProp 𝕄) ⊣⊢ iprop(oP c c q f ∗ (c : Thread nD τ).loc cc0_scratch2 ↦[restSet c]{q} f) := by
  have h := pointsTo_union (Ix := Unit) (Val := Elt F) (Name := ℕ) (U := UU) (Lvl := ℕ) (ℓ := (c : Thread nD τ).loc cc0_scratch2) (q := q) (f := f) (rest_disjoint c)
  rw [rest_union] at h
  exact h

/-- One slot's share for the 31 copies that read it, and what is kept. -/
theorem oP_toks (f : Buf3 F) : (oP c c fullShare f : sProp 𝕄)
    ⊣⊢ iprop(oP c c (shareDrop fullShare 31) f ∗ bigSepL order fun x => oP c c (shareTok fullShare 31 x.1) f) := by
  rw [← bigSep_fin31 fun o => (oP c c (shareTok fullShare 31 o) f : sProp 𝕄)]
  exact Transfers.pointsTo_toks fullShare 31

/-- The same of the others' slots. -/
theorem rest_toks (f : Buf3 F) : ((c : Thread nD τ).loc cc0_scratch2 ↦[restSet c]{fullShare} f : sProp 𝕄)
    ⊣⊢ iprop(((c : Thread nD τ).loc cc0_scratch2 ↦[restSet c]{shareDrop fullShare 31} f)
      ∗ bigSep Finset.univ fun o : Fin 31 => (c : Thread nD τ).loc cc0_scratch2 ↦[restSet c]{shareTok fullShare 31 o} f) :=
  Transfers.pointsTo_toks fullShare 31

/-! ## One slot as the body loads and stores it -/

theorem acc_emb (j : Fin 32) (k : S1x8x512.Idx) :
    (Rect.unit (s := S32x8x512) ![j.val, 0, 0] S1x8x512.size (inb3 j)).emb k = at3 j (ValueIdx.ix2 (k 1 : Fin 8) (k 2 : Fin 512)) := by
  refine Shape.idx3_ext ?_ ?_ ?_ <;> rw [Rect.emb_apply]
  · show j.val + 1 * (k 0).val = j.val
    have : (k 0).val < 1 := (k 0).isLt
    omega
  · show 0 + 1 * _ = _; rw [Nat.one_mul, Nat.zero_add]; rfl
  · show 0 + 1 * _ = _; rw [Nat.one_mul, Nat.zero_add]; rfl

theorem at3_acc (j : Fin 32) (k : S8x512.Idx) :
    at3 j k = (Rect.unit (s := S32x8x512) ![j.val, 0, 0] S1x8x512.size (inb3 j)).emb (ValueIdx.ix3 (0 : Fin 1) (k 0 : Fin 8) (k 1 : Fin 512)) :=
  (acc_emb j (ValueIdx.ix3 (0 : Fin 1) (k 0 : Fin 8) (k 1 : Fin 512))).symm

section Access

variable (j : Fin 32) {off : Fin 3 → Nat} (h : ∀ a, off a + S1x8x512.size a ≤ S32x8x512.size a) (e : off = ![j.val, 0, 0])

include e

theorem acc_set : (sM.access (Rect.unit (s := S32x8x512) off S1x8x512.size h)).set ⊆ slotSet j := by
  subst e
  intro i hi
  obtain ⟨k, -, hk⟩ := Finset.mem_map.mp hi
  have e' : at3 j (ValueIdx.ix2 (k 1 : Fin 8) (k 2 : Fin 512)) = i := (acc_emb j k).symm.trans hk
  rw [← e']; exact at3_mem j _
theorem acc_set_g : (gM.access (Rect.unit (s := S32x8x512) off S1x8x512.size h)).set ⊆ slotSet j := acc_set j h e
theorem acc_set_o : (oM.access (Rect.unit (s := S32x8x512) off S1x8x512.size h)).set ⊆ slotSet j := acc_set j h e

theorem acc_read (f : Buf3 F) (k : S1x8x512.Idx) :
    (sM.access (Rect.unit (s := S32x8x512) off S1x8x512.size h)).read (Elt F) f k = f (at3 j (ValueIdx.ix2 (k 1 : Fin 8) (k 2 : Fin 512))) := by
  subst e
  exact congrArg f (acc_emb j k)

theorem acc_write (f : Buf3 F) (w : Vec F S1x8x512 .bf16) (k : S8x512.Idx) :
    (gM.access (Rect.unit (s := S32x8x512) off S1x8x512.size h)).write (Elt F) f w Finset.univ (at3 j k)
      = w (ValueIdx.ix3 (0 : Fin 1) (k 0 : Fin 8) (k 1 : Fin 512)) := by
  subst e
  have := View.write_emb_of_mem (v := gM.access (Rect.unit (s := S32x8x512) ![j.val, 0, 0] S1x8x512.size h)) (Val := Elt F) f w
    (Finset.mem_univ (ValueIdx.ix3 (0 : Fin 1) (k 0 : Fin 8) (k 1 : Fin 512)))
  rw [at3_acc]; exact this
theorem acc_write_o (f : Buf3 F) (w : Vec F S1x8x512 .bf16) (k : S8x512.Idx) :
    (oM.access (Rect.unit (s := S32x8x512) off S1x8x512.size h)).write (Elt F) f w Finset.univ (at3 j k)
      = w (ValueIdx.ix3 (0 : Fin 1) (k 0 : Fin 8) (k 1 : Fin 512)) := by
  subst e
  have := View.write_emb_of_mem (v := oM.access (Rect.unit (s := S32x8x512) ![j.val, 0, 0] S1x8x512.size h)) (Val := Elt F) f w
    (Finset.mem_univ (ValueIdx.ix3 (0 : Fin 1) (k 0 : Fin 8) (k 1 : Fin 512)))
  rw [at3_acc]; exact this

end Access

variable (Sb : Dev nD → Buf3 F)

/-- The own slot of the first phase: the reshapes around the copy change nothing. -/
theorem keep1 {off : Fin 3 → Nat} (h : ∀ a, off a + S1x8x512.size a ≤ S32x8x512.size a) (e : off = ![c.val, 0, 0]) (f : Buf3 F) :
    ((c : Thread nD τ).loc cc0_scratch1 ↦[slotSet c]{fullShare}
      ((gM.access (Rect.unit (s := S32x8x512) off S1x8x512.size h)).write (Elt F) f
        (k0_pay54 (k0_pay53 ((sM.access (Rect.unit (s := S32x8x512) off S1x8x512.size h)).read (Elt F) (Sb c)))) Finset.univ) : sProp 𝕄)
      = gP c c (gath Sb c) :=
  pointsTo_congr fun i hi => by
    obtain ⟨k, rfl⟩ := exists_at3 hi
    refine (acc_write c h e f _ k).trans ?_
    unfold k0_pay54 k0_pay53
    rw [shapeCast_shapeCast, acc_read c h e]
    rfl

/-- The own slot of the second phase. -/
theorem keep2 {off : Fin 3 → Nat} (h : ∀ a, off a + S1x8x512.size a ≤ S32x8x512.size a) (e : off = ![c.val, 0, 0]) (f : Buf3 F) :
    ((c : Thread nD τ).loc cc0_scratch2 ↦[slotSet c]{fullShare}
      ((oM.access (Rect.unit (s := S32x8x512) off S1x8x512.size h)).write (Elt F) f (k0_pay55 (gath Sb c)) Finset.univ) : sProp 𝕄)
      = oP c c fullShare (full Sb) :=
  pointsTo_congr fun i hi => by
    obtain ⟨k, rfl⟩ := exists_at3 hi
    exact (acc_write_o c h e f _ k).trans rfl

end Cert.KernelIdeal.A2A

end
-- ==== Proof.Run.lean ====
/- The body's run on one device, from what it enters with to what it leaves: each stretch of the body by the rules of its
   families. -/
module

public import proofs.«01_k».proof.Proof.Lists

@[expose] public section

noncomputable section

namespace Cert.KernelIdeal.A2A

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (Sb : Dev nD → Buf3 F) (κ : GSem nD τ sig → ℕ) (c : Dev nD)

/-! ## Families that the stretches pass on -/

/-- The first-phase slots come back from the copies that have left, in the order of the steps. -/
theorem back1 : bigSepL (List.finRange 31) (fun o => (outPay1 Sb c (up o) : sProp 𝕄)) = bigSepL order fun x => sP c (ahead c x.2) (Sb c) := by
  rw [order_eq, bigSepL_map]
  refine congrArg (bigSepL (List.finRange 31)) (funext fun o => ?_)
  unfold outPay1
  rw [dif_pos (show (up o).val < 31 from o.isLt)]
  rfl

theorem back2 : bigSepL (List.finRange 31) (fun o => (outPay2 Sb c (up o) : sProp 𝕄))
    = bigSepL order fun x => oP c c (shareTok fullShare 31 x.1) (full Sb) := by
  rw [bigSepL_places fun o => (oP c c (shareTok fullShare 31 o) (full Sb) : sProp 𝕄)]
  refine congrArg (bigSepL (List.finRange 31)) (funext fun o => ?_)
  unfold outPay2
  rw [dif_pos (show (up o).val < 31 from o.isLt)]
  rfl

theorem wp_done (Kt : PUnit → sProp 𝕄) : Kt ⟨⟩ ⊢ WP c (.ret ⟨⟩) Kt := by
  unfold WP
  rw [wp_ret]
  iintro H; imodintro; iexact H

/-- A load of a whole buffer reads what it holds; a store of a whole buffer leaves what it stores. -/
theorem read_all_o (f : Buf3 F) : oM.view.readAt (Elt F) (Rect.unit (s := S32x8x512) ![0, 0, 0] S32x8x512.size inb_S32x8x512_S32x8x512_0_0_0).toLoadRect f = f :=
  Memref.readAt_unit_zero (Elt F) cc0_scratch2 (by decide) _ f
theorem read_all_g (f : Buf3 F) : gM.view.readAt (Elt F) (Rect.unit (s := S32x8x512) ![0, 0, 0] S32x8x512.size inb_S32x8x512_S32x8x512_0_0_0).toLoadRect f = f :=
  Memref.readAt_unit_zero (Elt F) cc0_scratch1 (by decide) _ f
theorem write_all_5 (f w : Vec F S256x512 .f32) :
    (a5.access (Rect.unit (s := S256x512) ![0, 0] S256x512.size inb_S256x512_S256x512_0_0)).write (Elt F) f w Finset.univ = w :=
  Memref.write_access_unit_zero_univ (Elt F) cc0_stg5_0 (by decide) _ f w

/-- The last stretch. -/
theorem run5 (w0 : Vec F S256x512 .f32) (Kt : PUnit → sProp 𝕄) :
    iprop(oP c c (shareDrop fullShare 31) (full Sb) ∗ (bigSepL order fun x => oP c (ahead c x.2) fullShare (full Sb))
        ∗ ((c : Thread nD τ).loc cc0_stg5_0 ↦{fullShare} w0) ∗ bigSepL (List.finRange 31) (fun o => iprop(rt c 0 (up o) ∗ rt c 2 (up o))) ∗ ride Sb κ c 0
        ∗ ((((c : Thread nD τ).loc cc0_scratch2 ↦{fullShare} full Sb) ∗ ((c : Thread nD τ).loc cc0_stg5_0 ↦{fullShare} k0_pay56 (full Sb))
            ∗ (bigSepL order fun x => sP c (ahead c x.2) (Sb c))
            ∗ (bigSepL (List.finRange 31) fun o => semVal (ownC c 0 (up o)) 0) ∗ (bigSepL (List.finRange 31) fun o => semVal (ownC c 2 (up o)) 0)
            ∗ ride Sb κ c 0) -∗ Kt ⟨⟩))
      ⊢ WP c tail5 Kt := by
  rw [← oP_rest c fullShare (full Sb)]
  unfold tail5
  iintro ⟨Hown, Hrest, H5, Hrt, HR, Hk⟩
  ihave Hr := (rest_toks c (full Sb)).1 $$ Hrest
  icases Hr with ⟨Hrd, Hrt'⟩
  ihave Ho := (oP_split c (shareDrop fullShare 31) (full Sb)).2 $$ [Hown Hrd]
  · isplitl [Hown] <;> iassumption
  iapply (wp_load 𝒱₀ (c : Thread nD τ) none Set.univ (Finset.subset_univ _)) $$ [Ho]
  · iexact Ho
  iintro Ho
  rw [read_all_o]
  iapply (wp_load 𝒱₀ (c : Thread nD τ) none Set.univ (Finset.subset_univ _)) $$ [H5]
  · iexact H5
  iintro H5
  iapply (wp_store 𝒱₀ (c : Thread nD τ) none Set.univ (Finset.subset_univ _)) $$ [H5]
  · iexact H5
  iintro H5
  rw [write_all_5]
  iapply (wp_waitSs Sb κ c) $$ [Hrt HR Ho H5 Hrt' Hk]
  isplitl [Hrt]; · iexact Hrt
  isplitl [HR]; · iexact HR
  iintro ⟨HB, HR⟩
  iapply (wp_done c)
  ihave HB := (bigSepL_sep _ _ _).1 $$ HB
  icases HB with ⟨HB1, HB2⟩
  ihave HB1 := (bigSepL_sep _ _ _).1 $$ HB1
  icases HB1 with ⟨HV0, HP0⟩
  ihave HB2 := (bigSepL_sep _ _ _).1 $$ HB2
  icases HB2 with ⟨HV2, HP2⟩
  ihave HP0 := (Entails.of_eq (back1 Sb c)) $$ HP0
  ihave HP2 := (Entails.of_eq (back2 Sb c)) $$ HP2
  ihave Ho := (oP_split c (shareDrop fullShare 31) (full Sb)).1 $$ Ho
  icases Ho with ⟨Hown, Hrd⟩
  ihave Hown := (oP_toks c (full Sb)).2 $$ [Hown HP2]
  · isplitl [Hown] <;> iassumption
  ihave Hrest := (rest_toks c (full Sb)).2 $$ [Hrd Hrt']
  · isplitl [Hrd] <;> iassumption
  iapply Hk
  isplitl [Hown Hrest]
  · iapply (oP_split c fullShare (full Sb)).2
    isplitl [Hown] <;> iassumption
  isplitl [H5]; · iexact H5
  isplitl [HP0]; · iexact HP0
  isplitl [HV0]; · iexact HV0
  isplitl [HV2]; · iexact HV2
  iexact HR

/-- What a second-phase copy needs besides its elements and the other device's slot. -/
def tk2 (x : Fin 31 × Fin 31) : sProp 𝕄 :=
  iprop(dutyTok ER (ownC c 2 (up x.1)) 0 c ∗ reached ER (ownC c 2 (up x.1)) 0 ∗ dutyTok ER (ownC (ahead c x.2) 3 c) 0 c)
/-- What a first-phase copy needs besides its elements and the other device's slot. -/
def tk1 (x : Fin 31 × Fin 31) : sProp 𝕄 :=
  iprop(dutyTok ER (ownC c 0 (up x.1)) 0 c ∗ reached ER (ownC c 0 (up x.1)) 0 ∗ dutyTok ER (ownC (ahead c x.2) 1 c) 0 c)
/-- The slot another device lends for the first phase, open for a landing. -/
def lend1 (x : Fin 31 × Fin 31) : sProp 𝕄 := iprop((∃ f, gP (ahead c x.2) c f) ∗ reached ER (ownC (ahead c x.2) 1 c) 0)
/-- The slot another device lends for the second phase. -/
def lend2 (x : Fin 31 × Fin 31) : sProp 𝕄 := iprop((∃ f, oP (ahead c x.2) c fullShare f) ∗ reached ER (ownC (ahead c x.2) 3 c) 0)
/-- Where an own semaphore stands at first. -/
def pos0 (k : Fin 4) (j : Fin 32) : sProp 𝕄 := atPos ER (ownC c k j) 0 ∅ 0

theorem make2 : iprop((bigSepL order (tk2 c)) ∗ (bigSepL order (lend2 c)) ∗ bigSepL order fun x => oP c c (shareTok fullShare 31 x.1) (full Sb))
    ⊢ (bigSepL order (cpy2 Sb c) : sProp 𝕄) := by
  refine (sep_mono_right (bigSepL_sep _ _ _).2).trans ((bigSepL_sep _ _ _).2.trans (bigSepL_mono fun x _ => ?_))
  unfold tk2 lend2 cpy2 duties2
  iintro ⟨⟨H1, H2, H3⟩, ⟨H4, H5⟩, H6⟩
  isplitl [H1 H2 H3 H5]
  · isplitl [H1]; · iexact H1
    isplitl [H2]; · iexact H2
    isplitl [H3]; · iexact H3
    iexact H5
  isplitl [H6]; · iexact H6
  iexact H4

theorem make1 : iprop((bigSepL order (tk1 c)) ∗ (bigSepL order (lend1 c)) ∗ bigSepL order fun x => sP c (ahead c x.2) (Sb c))
    ⊢ (bigSepL order (cpy1 Sb c) : sProp 𝕄) := by
  refine (sep_mono_right (bigSepL_sep _ _ _).2).trans ((bigSepL_sep _ _ _).2.trans (bigSepL_mono fun x _ => ?_))
  unfold tk1 lend1 cpy1 duties2
  iintro ⟨⟨H1, H2, H3⟩, ⟨H4, H5⟩, H6⟩
  isplitl [H1 H2 H3 H5]
  · isplitl [H1]; · iexact H1
    isplitl [H2]; · iexact H2
    isplitl [H3]; · iexact H3
    iexact H5
  isplitl [H6]; · iexact H6
  iexact H4

/-- The rights to the waits for what has been sent. -/
theorem makeS : iprop((bigSepL order fun x => cred (tallyAt (ownC c 0 (up x.1)) () N)) ∗ (bigSepL order fun x => pos0 c 0 (up x.1))
      ∗ (bigSepL order fun x => cred (tallyAt (ownC c 2 (up x.1)) () N)) ∗ bigSepL order fun x => pos0 c 2 (up x.1))
    ⊢ (bigSepL (List.finRange 31) (fun o => iprop(rt c 0 (up o) ∗ rt c 2 (up o))) : sProp 𝕄) := by
  rw [bigSepL_places fun o => (cred (tallyAt (ownC c 0 (up o)) () N) : sProp 𝕄), bigSepL_places fun o => (cred (tallyAt (ownC c 2 (up o)) () N) : sProp 𝕄),
    bigSepL_places fun o => (pos0 c 0 (up o) : sProp 𝕄), bigSepL_places fun o => (pos0 c 2 (up o) : sProp 𝕄)]
  refine (sep_mono_right (sep_mono_right (bigSepL_sep _ _ _).2)).trans ((sep_mono_right (bigSepL_sep _ _ _).2).trans
    ((bigSepL_sep _ _ _).2.trans (bigSepL_mono fun o _ => ?_)))
  unfold rt pos0
  iintro ⟨H1, H2, H3, H4⟩
  isplitl [H1 H2]
  · isplitl [H1] <;> iassumption
  isplitl [H3] <;> iassumption

/-- What the run leaves of the protocol: the buffers, the result, every counter used at zero. -/
def left (sv : Buf3 F) : sProp 𝕄 :=
  iprop(((c : Thread nD τ).loc cc0_scratch0 ↦{fullShare} sv) ∗ ((c : Thread nD τ).loc cc0_scratch1 ↦{fullShare} gath Sb c)
    ∗ ((c : Thread nD τ).loc cc0_scratch2 ↦{fullShare} full Sb) ∗ ((c : Thread nD τ).loc cc0_stg5_0 ↦{fullShare} k0_pay56 (full Sb))
    ∗ semVal (barC c) 0 ∗ (bigSepL (List.finRange 31) fun o => semVal (ownC c 0 (up o)) 0) ∗ (bigSepL order fun x => semVal (ownC c 1 (ahead c x.2)) 0)
    ∗ (bigSepL (List.finRange 31) fun o => semVal (ownC c 2 (up o)) 0) ∗ bigSepL order fun x => semVal (ownC c 3 (ahead c x.2)) 0)

theorem split_pay1 : bigSepL order (fun x => iprop(semVal (ownC c 1 (ahead c x.2)) 0 ∗ inPay1 Sb c (ahead c x.2)))
    ⊢ (iprop((bigSepL order fun x => semVal (ownC c 1 (ahead c x.2)) 0) ∗ bigSepL order fun x => gP c (ahead c x.2) (gath Sb c)) : sProp 𝕄) :=
  (bigSepL_sep _ _ _).1
theorem split_pay2 : bigSepL order (fun x => iprop(semVal (ownC c 3 (ahead c x.2)) 0 ∗ inPay2 Sb c (ahead c x.2)))
    ⊢ (iprop((bigSepL order fun x => semVal (ownC c 3 (ahead c x.2)) 0) ∗ bigSepL order fun x => oP c (ahead c x.2) fullShare (full Sb)) : sProp 𝕄) :=
  (bigSepL_sep _ _ _).1

/-- The reduction, the second phase and the rest. -/
theorem run4 (w0 : Vec F S256x512 .f32) (o0 : Buf3 F) (Kt : PUnit → sProp 𝕄) :
    iprop(((c : Thread nD τ).loc cc0_scratch1 ↦{fullShare} gath Sb c) ∗ oP c c fullShare o0 ∗ sP c c (Sb c)
        ∗ ((c : Thread nD τ).loc cc0_stg5_0 ↦{fullShare} w0) ∗ semVal (barC c) 0 ∗ (bigSepL order fun x => semVal (ownC c 1 (ahead c x.2)) 0)
        ∗ bigSepL order (tk2 c) ∗ bigSepL order (lend2 c) ∗ (bigSepL order fun x => rt c 3 (ahead c x.2))
        ∗ (bigSepL order fun x => cred (tallyAt (ownC c 0 (up x.1)) () N)) ∗ (bigSepL order fun x => pos0 c 0 (up x.1)) ∗ (bigSepL order fun x => pos0 c 2 (up x.1))
        ∗ ride Sb κ c (owX 3 c (others c)) ∗ ((left Sb c (Sb c) ∗ ride Sb κ c 0) -∗ Kt ⟨⟩))
      ⊢ WP c (tail4 c) Kt := by
  unfold tail4
  iintro ⟨Hg, Ho, Hs, H5, Hb, HV1, Htk, Hl, Hrt, Hc0, Hp0, Hp2, HR, Hk⟩
  iapply (wp_load 𝒱₀ (c : Thread nD τ) none Set.univ (Finset.subset_univ _)) $$ [Hg]
  · iexact Hg
  iintro Hg
  rw [read_all_g]
  iapply (wp_load_rect 𝒱₀ (c : Thread nD τ) none Set.univ (acc_set_o c (k0_off4_inb c) (k0_off4_eq c))) $$ [Ho]
  · iexact Ho
  iintro Ho
  iapply (wp_store 𝒱₀ (c : Thread nD τ) none Set.univ (acc_set_o c (k0_off4_inb c) (k0_off4_eq c))) $$ [Ho]
  · iexact Ho
  iintro Ho
  ihave Ho := (Entails.of_eq (keep2 c Sb (k0_off4_inb c) (k0_off4_eq c) o0)) $$ Ho
  ihave Ho := (oP_toks c (full Sb)).1 $$ Ho
  icases Ho with ⟨Ho, Htoks⟩
  iapply (wp_send2s Sb κ c) $$ [Htk Hl Htoks HR Hg Ho Hs H5 Hb HV1 Hrt Hc0 Hp0 Hp2 Hk]
  isplitl [Htk Hl Htoks]
  · iapply (make2 Sb c)
    isplitl [Htk]; · iexact Htk
    isplitl [Hl] <;> iassumption
  isplitl [HR]; · iexact HR
  iintro ⟨Hc2, HR⟩
  iapply (wp_wait2s Sb κ c) $$ [Hrt HR Hc2 Hg Ho Hs H5 Hb HV1 Hc0 Hp0 Hp2 Hk]
  isplitl [Hrt]; · iexact Hrt
  isplitl [HR]; · iexact HR
  iintro ⟨HB, HR⟩
  ihave HB := (split_pay2 Sb c) $$ HB
  icases HB with ⟨HV3, Hrest⟩
  iapply (run5 Sb κ c w0) $$ [HR Hc2 Hg Ho Hs H5 Hb HV1 HV3 Hrest Hc0 Hp0 Hp2 Hk]
  isplitl [Ho]; · iexact Ho
  isplitl [Hrest]; · iexact Hrest
  isplitl [H5]; · iexact H5
  isplitl [Hc2 Hc0 Hp0 Hp2]
  · iapply (makeS c)
    isplitl [Hc0]; · iexact Hc0
    isplitl [Hp0]; · iexact Hp0
    isplitl [Hc2] <;> iassumption
  isplitl [HR]; · iexact HR
  iintro ⟨Ho, H5, Hss, HV0, HV2, HR⟩
  iapply Hk
  unfold left
  isplitr [HR]
  · isplitl [Hs Hss]
    · rw [sP_split c (Sb c)]
      isplitl [Hs] <;> iassumption
    isplitl [Hg]; · iexact Hg
    isplitl [Ho]; · iexact Ho
    isplitl [H5]; · iexact H5
    isplitl [Hb]; · iexact Hb
    isplitl [HV0]; · iexact HV0
    isplitl [HV1]; · iexact HV1
    isplitl [HV2] <;> iassumption
  iexact HR

theorem bar_lends : bigSep (Finset.univ.erase c) (fun e => (barPay c e : sProp 𝕄)) ⊢ iprop(bigSepL order (lend1 c) ∗ bigSepL order (lend2 c)) := by
  rw [bigSep_others]
  refine BIBase.Entails.trans (bigSepL_mono fun x _ => ?_) (bigSepL_sep (lend1 c) (lend2 c) order).1
  unfold barPay lend1 lend2
  iintro ⟨H1, H2, H3, H4⟩
  isplitl [H1 H3]
  · isplitl [H1] <;> iassumption
  isplitl [H2] <;> iassumption

/-- From the barrier's wait on. -/
theorem run3 (w0 : Vec F S256x512 .f32) (g0 o0 : Buf3 F) (Kt : PUnit → sProp 𝕄) :
    iprop(((c : Thread nD τ).loc cc0_scratch0 ↦{fullShare} Sb c) ∗ gP c c g0 ∗ oP c c fullShare o0
        ∗ ((c : Thread nD τ).loc cc0_stg5_0 ↦{fullShare} w0) ∗ (cred (tallyAt (barC c) () 31) ∗ atPos ER (barC c) 0 ∅ 0)
        ∗ bigSepL order (tk1 c) ∗ bigSepL order (tk2 c) ∗ (bigSepL order fun x => rt c 1 (ahead c x.2)) ∗ (bigSepL order fun x => rt c 3 (ahead c x.2))
        ∗ (bigSepL order fun x => pos0 c 0 (up x.1)) ∗ (bigSepL order fun x => pos0 c 2 (up x.1))
        ∗ ride Sb κ c (owX 3 c (others c) + owX 1 c (others c)) ∗ ((left Sb c (Sb c) ∗ ride Sb κ c 0) -∗ Kt ⟨⟩))
      ⊢ WP c (tail3 c) Kt := by
  unfold tail3
  rw [sP_split c (Sb c)]
  iintro ⟨⟨Hs, Hss⟩, Hg, Ho, H5, Hbar, Htk1, Htk, Hrt1, Hrt, Hp0, Hp2, HR, Hk⟩
  unfold ride
  icases HR with ⟨#HK, %W, HO⟩
  iapply (wp_waitB Sb κ c (owX 3 c (others c) + owX 1 c (others c)) W (mayWait_bar c)) $$ [Hbar HO Hs Hss Hg Ho H5 Htk1 Htk Hrt1 Hrt Hp0 Hp2 Hk]
  isplitl [Hbar]; · iexact Hbar
  isplitl [HO]
  · isplitr; · iexact HK
    iexact HO
  iintro ⟨⟨Hb, Hpay⟩, HO⟩
  ihave Hl := (bar_lends c) $$ Hpay
  icases Hl with ⟨Hl1, Hl⟩
  iapply (wp_send1s Sb κ c) $$ [HO Hs Hss Hg Ho H5 Htk1 Hl1 Hl Htk Hrt1 Hrt Hp0 Hp2 Hb Hk]
  isplitl [Htk1 Hl1 Hss]
  · iapply (make1 Sb c)
    isplitl [Htk1]; · iexact Htk1
    isplitl [Hl1] <;> iassumption
  isplitl [HO]
  · unfold ride
    isplitr; · iexact HK
    iexact HO
  iintro ⟨Hc0, HR⟩
  iapply (wp_load_rect 𝒱₀ (c : Thread nD τ) none Set.univ (acc_set c (k0_off4_inb c) (k0_off4_eq c))) $$ [Hs]
  · iexact Hs
  iintro Hs
  iapply (wp_load_rect 𝒱₀ (c : Thread nD τ) none Set.univ (acc_set_g c (k0_off4_inb c) (k0_off4_eq c))) $$ [Hg]
  · iexact Hg
  iintro Hg
  iapply (wp_store 𝒱₀ (c : Thread nD τ) none Set.univ (acc_set_g c (k0_off4_inb c) (k0_off4_eq c))) $$ [Hg]
  · iexact Hg
  iintro Hg
  ihave Hg := (Entails.of_eq (keep1 c Sb (k0_off4_inb c) (k0_off4_eq c) g0)) $$ Hg
  iapply (wp_wait1s Sb κ c) $$ [Hrt1 HR Hs Hg Ho H5 Hl Htk Hrt Hc0 Hp0 Hp2 Hb Hk]
  isplitl [Hrt1]; · iexact Hrt1
  isplitl [HR]
  · iapply (Entails.of_eq (show ride Sb κ c (owX 3 c (others c) + owL 1 c []) = ride Sb κ c (owX 3 c (others c)) from by rw [show owL 1 c [] = 0 from rfl, add_zero]))
    iexact HR
  iintro ⟨HB, HR⟩
  ihave HB := (split_pay1 Sb c) $$ HB
  icases HB with ⟨HV1, Hgs⟩
  iapply (run4 Sb κ c w0 o0) $$ [HR Hs Hg Hgs Ho H5 Hl Htk Hrt Hc0 Hp0 Hp2 Hb HV1 Hk]
  isplitl [Hg Hgs]
  · rw [gP_split c (gath Sb c)]
    isplitl [Hg] <;> iassumption
  isplitl [Ho]; · iexact Ho
  isplitl [Hs]; · iexact Hs
  isplitl [H5]; · iexact H5
  isplitl [Hb]; · iexact Hb
  isplitl [HV1]; · iexact HV1
  isplitl [Htk]; · iexact Htk
  isplitl [Hl]; · iexact Hl
  isplitl [Hrt]; · iexact Hrt
  isplitl [Hc0]; · iexact Hc0
  isplitl [Hp0]; · iexact Hp0
  isplitl [Hp2]; · iexact Hp2
  isplitl [HR]; · iexact HR
  iexact Hk

end Cert.KernelIdeal.A2A

end
-- ==== Proof.Whole.lean ====
/- The body's whole run: the signals, the loads and the partial product's two stores, then the rest. -/
module

public import proofs.«01_k».proof.Proof.Run

@[expose] public section

noncomputable section

namespace Cert.KernelIdeal.A2A

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

/-! ## What a device's partial product is -/

/-- One batch's and one group's keys (transposed) and values. -/
def keyBlk (kt : Vec F S2x2x64x128 .f32) (b g : Fin 2) : Vec F S1x1x64x128 .f32 := fun i => kt (ValueIdx.ix4 b g (i 2 : Fin 64) (i 3 : Fin 128))
def valBlk (vt : Vec F S2x2x128x64 .f32) (b g : Fin 2) : Vec F S1x1x128x64 .f32 := fun i => vt (ValueIdx.ix4 b g (i 2 : Fin 128) (i 3 : Fin 64))

/-- The partial product of a device: slots 0 to 15 from the first batch, slots 16 to 31 from the second. -/
def part (x : Vec F S256x512 .f32) (wq wo : Vec F S512x512 .f32) (kt : Vec F S2x2x64x128 .f32) (vt : Vec F S2x2x128x64 .f32) : Buf3 F := fun i =>
  if h : (i 0).val < 16 then
    half0 x wq wo (keyBlk kt 0 0) (valBlk vt 0 0) (keyBlk kt 0 1) (valBlk vt 0 1) (ValueIdx.ix3 (⟨(i 0).val, h⟩ : Fin 16) (i 1 : Fin 8) (i 2 : Fin 512))
  else
    half1 x wq wo (keyBlk kt 1 0) (valBlk vt 1 0) (keyBlk kt 1 1) (valBlk vt 1 1)
      (ValueIdx.ix3 (⟨(i 0).val - 16, by have : (i 0).val < 32 := (i 0).isLt; omega⟩ : Fin 16) (i 1 : Fin 8) (i 2 : Fin 512))

theorem read_a0 (f : Vec F S256x512 .f32) : a0.view.readAt (Elt F) (Rect.unit (s := S256x512) ![0, 0] S256x512.size inb_S256x512_S256x512_0_0).toLoadRect f = f :=
  Memref.readAt_unit_zero (Elt F) cc0_stg0_0 (by decide) _ f
theorem read_a1 (f : Vec F S512x512 .f32) : a1.view.readAt (Elt F) (Rect.unit (s := S512x512) ![0, 0] S512x512.size inb_S512x512_S512x512_0_0).toLoadRect f = f :=
  Memref.readAt_unit_zero (Elt F) cc0_stg1_0 (by decide) _ f
theorem read_a2 (f : Vec F S512x512 .f32) : a2.view.readAt (Elt F) (Rect.unit (s := S512x512) ![0, 0] S512x512.size inb_S512x512_S512x512_0_0).toLoadRect f = f :=
  Memref.readAt_unit_zero (Elt F) cc0_stg2_0 (by decide) _ f

theorem idx4_ext {d : Fin 4 → Nat} {x y : (⟨4, d⟩ : Shape).Idx} (h0 : (x 0).val = (y 0).val) (h1 : (x 1).val = (y 1).val) (h2 : (x 2).val = (y 2).val)
    (h3 : (x 3).val = (y 3).val) : x = y :=
  funext fun a => by
    match a with
    | 0 => exact Fin.ext h0
    | 1 => exact Fin.ext h1
    | 2 => exact Fin.ext h2
    | 3 => exact Fin.ext h3

theorem read_a3 (b g : Fin 2) (h : ∀ a, (![b.val, g.val, 0, 0] : Fin 4 → Nat) a + S1x1x64x128.size a ≤ S2x2x64x128.size a) (f : Vec F S2x2x64x128 .f32) :
    a3.view.readAt (Elt F) (Rect.unit (s := S2x2x64x128) ![b.val, g.val, 0, 0] S1x1x64x128.size h).toLoadRect f = keyBlk f b g := by
  funext k
  have h0 : (k 0).val < 1 := (k 0).isLt
  have h1 : (k 1).val < 1 := (k 1).isLt
  refine congrArg f (idx4_ext ?_ ?_ ?_ ?_)
  · show b.val + 1 * (k 0).val = b.val; omega
  · show g.val + 1 * (k 1).val = g.val; omega
  · show 0 + 1 * (k 2).val = (k 2).val; omega
  · show 0 + 1 * (k 3).val = (k 3).val; omega
theorem read_a4 (b g : Fin 2) (h : ∀ a, (![b.val, g.val, 0, 0] : Fin 4 → Nat) a + S1x1x128x64.size a ≤ S2x2x128x64.size a) (f : Vec F S2x2x128x64 .f32) :
    a4.view.readAt (Elt F) (Rect.unit (s := S2x2x128x64) ![b.val, g.val, 0, 0] S1x1x128x64.size h).toLoadRect f = valBlk f b g := by
  funext k
  have h0 : (k 0).val < 1 := (k 0).isLt
  have h1 : (k 1).val < 1 := (k 1).isLt
  refine congrArg f (idx4_ext ?_ ?_ ?_ ?_)
  · show b.val + 1 * (k 0).val = b.val; omega
  · show g.val + 1 * (k 1).val = g.val; omega
  · show 0 + 1 * (k 2).val = (k 2).val; omega
  · show 0 + 1 * (k 3).val = (k 3).val; omega

abbrev rLo : Rect S32x8x512 := Rect.unit (s := S32x8x512) ![0, 0, 0] S16x8x512.size inb_S32x8x512_S16x8x512_0_0_0
abbrev rHi : Rect S32x8x512 := Rect.unit (s := S32x8x512) ![16, 0, 0] S16x8x512.size inb_S32x8x512_S16x8x512_16_0_0

theorem lo_emb (i : S32x8x512.Idx) (h : (i 0).val < 16) : rLo.emb (ValueIdx.ix3 (⟨(i 0).val, h⟩ : Fin 16) (i 1 : Fin 8) (i 2 : Fin 512)) = i := by
  refine Shape.idx3_ext ?_ ?_ ?_
  · show 0 + 1 * (i 0).val = (i 0).val; omega
  · show 0 + 1 * (i 1).val = (i 1).val; omega
  · show 0 + 1 * (i 2).val = (i 2).val; omega
theorem hi_emb (i : S32x8x512.Idx) (h : ¬(i 0).val < 16) :
    rHi.emb (ValueIdx.ix3 (⟨(i 0).val - 16, by have : (i 0).val < 32 := (i 0).isLt; omega⟩ : Fin 16) (i 1 : Fin 8) (i 2 : Fin 512)) = i := by
  refine Shape.idx3_ext ?_ ?_ ?_
  · show 16 + 1 * ((i 0).val - 16) = (i 0).val; omega
  · show 0 + 1 * (i 1).val = (i 1).val; omega
  · show 0 + 1 * (i 2).val = (i 2).val; omega

theorem write_lo (f : Buf3 F) (w : Vec F S16x8x512 .bf16) (i : S32x8x512.Idx) (h : (i 0).val < 16) :
    (sM.access rLo).write (Elt F) f w Finset.univ i = w (ValueIdx.ix3 (⟨(i 0).val, h⟩ : Fin 16) (i 1 : Fin 8) (i 2 : Fin 512)) := by
  have := View.write_emb_of_mem (v := sM.access rLo) (Val := Elt F) f w (Finset.mem_univ (ValueIdx.ix3 (⟨(i 0).val, h⟩ : Fin 16) (i 1 : Fin 8) (i 2 : Fin 512)))
  conv_lhs => rw [← lo_emb i h]
  exact this
theorem write_hi (f : Buf3 F) (w : Vec F S16x8x512 .bf16) (i : S32x8x512.Idx) (h : ¬(i 0).val < 16) :
    (sM.access rHi).write (Elt F) f w Finset.univ i
      = w (ValueIdx.ix3 (⟨(i 0).val - 16, by have : (i 0).val < 32 := (i 0).isLt; omega⟩ : Fin 16) (i 1 : Fin 8) (i 2 : Fin 512)) := by
  have := View.write_emb_of_mem (v := sM.access rHi) (Val := Elt F) f w
    (Finset.mem_univ (ValueIdx.ix3 (⟨(i 0).val - 16, by have : (i 0).val < 32 := (i 0).isLt; omega⟩ : Fin 16) (i 1 : Fin 8) (i 2 : Fin 512)))
  conv_lhs => rw [← hi_emb i h]
  exact this
theorem write_hi_not (f : Buf3 F) (w : Vec F S16x8x512 .bf16) (i : S32x8x512.Idx) (h : (i 0).val < 16) :
    (sM.access rHi).write (Elt F) f w Finset.univ i = f i := by
  refine View.write_of_not_mem (v := sM.access rHi) (Val := Elt F) f w Finset.univ fun hm => ?_
  obtain ⟨k, -, hk⟩ := Finset.mem_map.mp hm
  have e : (i 0).val = 16 + 1 * (k 0).val := congrArg (fun j : S32x8x512.Idx => (j 0).val) hk.symm
  omega

theorem write_part (s0 : Buf3 F) (x : Vec F S256x512 .f32) (wq wo : Vec F S512x512 .f32) (kt : Vec F S2x2x64x128 .f32) (vt : Vec F S2x2x128x64 .f32) :
    (sM.access rHi).write (Elt F)
      ((sM.access rLo).write (Elt F) s0 (half0 x wq wo (keyBlk kt 0 0) (valBlk vt 0 0) (keyBlk kt 0 1) (valBlk vt 0 1)) Finset.univ)
      (half1 x wq wo (keyBlk kt 1 0) (valBlk vt 1 0) (keyBlk kt 1 1) (valBlk vt 1 1)) Finset.univ = part x wq wo kt vt := by
  funext i
  unfold part
  by_cases h : (i 0).val < 16
  · rw [dif_pos h]
    exact (write_hi_not _ _ i h).trans (write_lo _ _ i h)
  · rw [dif_neg h]
    exact write_hi _ _ i h

/-! ## The run -/

variable (Sb : Dev nD → Buf3 F) (κ : GSem nD τ sig → ℕ) (c : Dev nD)

/-- What device `c` needs to signal one other device. -/
def tkB (x : Fin 31 × Fin 31) : sProp 𝕄 :=
  iprop(dutyTok ER (barC (ahead c x.2)) 0 c ∗ reached ER (barC (ahead c x.2)) 0 ∗ reached ER (ownC c 1 (ahead c x.2)) 0 ∗ reached ER (ownC c 3 (ahead c x.2)) 0)

theorem make_sigs (g0 o0 : Buf3 F) : iprop(bigSepL order (tkB c) ∗ (bigSepL order fun x => gP c (ahead c x.2) g0) ∗ (bigSepL order fun x => oP c (ahead c x.2) fullShare o0))
    ⊢ (bigSepL allDevs (sigA c) : sProp 𝕄) := by
  rw [bigSepL_allDevs, bigSep_devs c]
  refine BIBase.Entails.trans ?_ (show (bigSepL order fun x => sigA c (ahead c x.2) : sProp 𝕄) ⊢ iprop(sigA c c ∗ bigSepL order fun x => sigA c (ahead c x.2)) from by
    unfold sigA; rw [if_pos rfl]; iintro H; isplitr; · iempintro
    iexact H)
  refine (sep_mono_right (bigSepL_sep _ _ _).2).trans ((bigSepL_sep _ _ _).2.trans (bigSepL_mono fun x _ => ?_))
  unfold tkB sigA barPay
  rw [if_neg (ahead_ne c x.2)]
  iintro ⟨⟨H1, H2, H3, H4⟩, H5, H6⟩
  isplitl [H1]; · iexact H1
  isplitl [H2]; · iexact H2
  isplitl [H5]; · iexists g0; iexact H5
  isplitl [H6]; · iexists o0; iexact H6
  isplitl [H3] <;> iassumption

variable (x : Vec F S256x512 .f32) (wq wo : Vec F S512x512 .f32) (kt : Vec F S2x2x64x128 .f32) (vt : Vec F S2x2x128x64 .f32)

/-- The five input blocks, as the body finds them. -/
def inputs : sProp 𝕄 :=
  iprop(((c : Thread nD τ).loc cc0_stg0_0 ↦{fullShare} x) ∗ ((c : Thread nD τ).loc cc0_stg1_0 ↦{fullShare} wq) ∗ ((c : Thread nD τ).loc cc0_stg2_0 ↦{fullShare} wo)
    ∗ ((c : Thread nD τ).loc cc0_stg3_0 ↦{fullShare} kt) ∗ ((c : Thread nD τ).loc cc0_stg4_0 ↦{fullShare} vt))

/-- The loads and the two stores. -/
theorem run2 (hSb : Sb c = part x wq wo kt vt) (s0 : Buf3 F) (Kt : PUnit → sProp 𝕄) :
    iprop(inputs c x wq wo kt vt ∗ ((c : Thread nD τ).loc cc0_scratch0 ↦{fullShare} s0)
        ∗ ((inputs c x wq wo kt vt ∗ ((c : Thread nD τ).loc cc0_scratch0 ↦{fullShare} Sb c)) -∗ WP c (tail3 c) Kt))
      ⊢ WP c (tail2 c) Kt := by
  unfold inputs tail2
  iintro ⟨⟨H0, H1, H2, H3, H4⟩, Hs, Hk⟩
  iapply (wp_load 𝒱₀ (c : Thread nD τ) none Set.univ (Finset.subset_univ _)) $$ [H0]
  · iexact H0
  iintro H0
  iapply (wp_load 𝒱₀ (c : Thread nD τ) none Set.univ (Finset.subset_univ _)) $$ [H1]
  · iexact H1
  iintro H1
  iapply (wp_load 𝒱₀ (c : Thread nD τ) none Set.univ (Finset.subset_univ _)) $$ [H2]
  · iexact H2
  iintro H2
  rw [read_a0, read_a1, read_a2]
  iapply (wp_load 𝒱₀ (c : Thread nD τ) none Set.univ (Finset.subset_univ _)) $$ [H3]
  · iexact H3
  iintro H3
  iapply (wp_load 𝒱₀ (c : Thread nD τ) none Set.univ (Finset.subset_univ _)) $$ [H4]
  · iexact H4
  iintro H4
  iapply (wp_load 𝒱₀ (c : Thread nD τ) none Set.univ (Finset.subset_univ _)) $$ [H3]
  · iexact H3
  iintro H3
  iapply (wp_load 𝒱₀ (c : Thread nD τ) none Set.univ (Finset.subset_univ _)) $$ [H4]
  · iexact H4
  iintro H4
  iapply (wp_load 𝒱₀ (c : Thread nD τ) none Set.univ (Finset.subset_univ _)) $$ [Hs]
  · iexact Hs
  iintro Hs
  iapply (wp_store 𝒱₀ (c : Thread nD τ) none Set.univ (Finset.subset_univ _)) $$ [Hs]
  · iexact Hs
  iintro Hs
  iapply (wp_load 𝒱₀ (c : Thread nD τ) none Set.univ (Finset.subset_univ _)) $$ [H3]
  · iexact H3
  iintro H3
  iapply (wp_load 𝒱₀ (c : Thread nD τ) none Set.univ (Finset.subset_univ _)) $$ [H4]
  · iexact H4
  iintro H4
  iapply (wp_load 𝒱₀ (c : Thread nD τ) none Set.univ (Finset.subset_univ _)) $$ [H3]
  · iexact H3
  iintro H3
  iapply (wp_load 𝒱₀ (c : Thread nD τ) none Set.univ (Finset.subset_univ _)) $$ [H4]
  · iexact H4
  iintro H4
  iapply (wp_load 𝒱₀ (c : Thread nD τ) none Set.univ (Finset.subset_univ _)) $$ [Hs]
  · iexact Hs
  iintro Hs
  iapply (wp_store 𝒱₀ (c : Thread nD τ) none Set.univ (Finset.subset_univ _)) $$ [Hs]
  · iexact Hs
  iintro Hs
  iapply Hk
  isplitr [Hs]
  · isplitl [H0]; · iexact H0
    isplitl [H1]; · iexact H1
    isplitl [H2]; · iexact H2
    isplitl [H3]; · iexact H3
    iexact H4
  rw [hSb, ← write_part s0 x wq wo kt vt, ← read_a3 0 0 inb_S2x2x64x128_S1x1x64x128_0_0_0_0 kt, ← read_a3 0 1 inb_S2x2x64x128_S1x1x64x128_0_1_0_0 kt,
    ← read_a3 1 0 inb_S2x2x64x128_S1x1x64x128_1_0_0_0 kt, ← read_a3 1 1 inb_S2x2x64x128_S1x1x64x128_1_1_0_0 kt,
    ← read_a4 0 0 inb_S2x2x128x64_S1x1x128x64_0_0_0_0 vt, ← read_a4 0 1 inb_S2x2x128x64_S1x1x128x64_0_1_0_0 vt,
    ← read_a4 1 0 inb_S2x2x128x64_S1x1x128x64_1_0_0_0 vt, ← read_a4 1 1 inb_S2x2x128x64_S1x1x128x64_1_1_0_0 vt]
  iexact Hs

/-- What the protocol gives device `c` to start with. -/
def start : sProp 𝕄 :=
  iprop((cred (tallyAt (barC c) () 31) ∗ atPos ER (barC c) 0 ∅ 0) ∗ bigSepL order (tkB c) ∗ bigSepL order (tk1 c) ∗ bigSepL order (tk2 c)
    ∗ (bigSepL order fun x => rt c 1 (ahead c x.2)) ∗ (bigSepL order fun x => rt c 3 (ahead c x.2))
    ∗ (bigSepL order fun x => pos0 c 0 (up x.1)) ∗ (bigSepL order fun x => pos0 c 2 (up x.1)))

/-- The body, from its start to its end. -/
theorem run (hSb : Sb c = part x wq wo kt vt) (w0 : Vec F S256x512 .f32) (s0 g0 o0 : Buf3 F) (Kt : PUnit → sProp 𝕄) :
    iprop(inputs c x wq wo kt vt ∗ ((c : Thread nD τ).loc cc0_stg5_0 ↦{fullShare} w0)
        ∗ (((c : Thread nD τ).loc cc0_scratch0 ↦{fullShare} s0) ∗ ((c : Thread nD τ).loc cc0_scratch1 ↦{fullShare} g0)
          ∗ ((c : Thread nD τ).loc cc0_scratch2 ↦{fullShare} o0))
        ∗ start c ∗ ride Sb κ c (O₀ c) ∗ ((inputs c x wq wo kt vt ∗ left Sb c (Sb c) ∗ ride Sb κ c 0) -∗ Kt ⟨⟩))
      ⊢ WP c (cc0_body (F := F) a0 (hstage0_0 0) a1 (hstage0_1 0) a2 (hstage0_2 0) a3 (hstage0_3 0) a4 (hstage0_4 0) a5 (hstage0_5 0)
        sM (Memref.isWhole_whole _) gM (Memref.isWhole_whole _) oM (Memref.isWhole_whole _) cc0_scratch3 cc0_scratch4 cc0_scratch5 cc0_scratch6) Kt := by
  rw [body_eq]
  unfold WP
  rw [wp_deviceId]
  unfold start
  iintro ⟨Hin, H5, ⟨Hs, Hg, Ho⟩, ⟨Hbar, HtB, Ht1, Ht2, Hr1, Hr3, Hp0, Hp2⟩, HR, Hk⟩
  ihave Hg := (Entails.of_eq (gP_split c g0)) $$ Hg
  icases Hg with ⟨Hg, Hgs⟩
  ihave Ho := (oP_split c fullShare o0).1 $$ Ho
  icases Ho with ⟨Ho, Hos⟩
  ihave Hos := (Entails.of_eq (oP_rest c fullShare o0)) $$ Hos
  iapply (wp_sigs Sb κ c (owX 3 c (others c) + owX 1 c (others c)) (tail2 c) Kt allDevs)
    $$ [Hin H5 Hs Hg Ho Hgs Hos Hbar HtB Ht1 Ht2 Hr1 Hr3 Hp0 Hp2 HR Hk]
  isplitl [HtB Hgs Hos]
  · iapply (make_sigs c g0 o0)
    isplitl [HtB]; · iexact HtB
    isplitl [Hgs] <;> iassumption
  isplitl [HR]; · iexact HR
  iintro HR
  iapply (run2 Sb c x wq wo kt vt hSb s0 Kt) $$ [Hin H5 Hs Hg Ho Hbar Ht1 Ht2 Hr1 Hr3 Hp0 Hp2 HR Hk]
  isplitl [Hin]; · iexact Hin
  isplitl [Hs]; · iexact Hs
  iintro ⟨Hin, Hs⟩
  iapply (run3 Sb κ c w0 g0 o0 Kt) $$ [Hin H5 Hs Hg Ho Hbar Ht1 Ht2 Hr1 Hr3 Hp0 Hp2 HR Hk]
  isplitl [Hs]; · iexact Hs
  isplitl [Hg]; · iexact Hg
  isplitl [Ho]; · iexact Ho
  isplitl [H5]; · iexact H5
  isplitl [Hbar]; · iexact Hbar
  isplitl [Ht1]; · iexact Ht1
  isplitl [Ht2]; · iexact Ht2
  isplitl [Hr1]; · iexact Hr1
  isplitl [Hr3]; · iexact Hr3
  isplitl [Hp0]; · iexact Hp0
  isplitl [Hp2]; · iexact Hp2
  isplitl [HR]; · iexact HR
  iintro ⟨HL, HR⟩
  iapply Hk
  isplitl [Hin]; · iexact Hin
  isplitl [HL] <;> iassumption

end Cert.KernelIdeal.A2A

end
-- ==== Proof.Ghost.lean ====
/- What the exchange's ghost state is when the program starts, how it is dealt to the devices, and how a device enters and
   leaves the call with it. -/
module

public import proofs.«01_k».proof.Proof.Whole

@[expose] public section

noncomputable section

namespace Cert.KernelIdeal.A2A

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-! ## A device's own semaphores -/

/-- The own semaphores of a device: four arrays of 32. -/
abbrev osem (kj : Fin 4 × Fin 32) : SemLoc sig := .dma (dsem kj.1 kj.2)

theorem osem_facts : Pipeline.OwnSemFacts spec0 osem where
  isScoped := by decide +kernel
  inj := dsem_inj
  disj := by decide +kernel

theorem osem_ne_bar (kj : Fin 4 × Fin 32) : osem kj ≠ .reg barS := fun h => by cases h

theorem unscoped_eq : ∀ sm : SemLoc sig, sm.isScoped .tc = false → sm = .reg barS := by decide +kernel

section Split

variable {M : Type} [URA M]

theorem bigSep_fin4 (Φ : Fin 4 → sProp M) : bigSep Finset.univ Φ = iprop(Φ 0 ∗ Φ 1 ∗ Φ 2 ∗ Φ 3) :=
  bigSep_univ_eq_bigSepL [(0 : Fin 4), 1, 2, 3] (by decide) (by decide) Φ

/-- An array by the places of the order, and its last semaphore. -/
theorem bigSep_up (Φ : Fin 32 → sProp M) : bigSep Finset.univ Φ = iprop(Φ 31 ∗ bigSepL order fun x => Φ (up x.1)) := by
  rw [bigSepL_places fun o => Φ (up o), ← bigSepL_map up (List.finRange 31) Φ, ← bigSepL_cons']
  exact bigSep_univ_eq_bigSepL (31 :: (List.finRange 31).map up) (by decide +kernel) (by decide +kernel) Φ

/-- A device's four arrays: the four semaphores that nobody uses, and the families that the body uses. -/
theorem own_split (c : Dev nD) (Φ : Fin 4 → Fin 32 → sProp M) : bigSep Finset.univ (fun kj : Fin 4 × Fin 32 => Φ kj.1 kj.2)
    = iprop((Φ 0 31 ∗ bigSepL order fun x => Φ 0 (up x.1)) ∗ (Φ 1 c ∗ bigSepL order fun x => Φ 1 (ahead c x.2))
      ∗ (Φ 2 31 ∗ bigSepL order fun x => Φ 2 (up x.1)) ∗ (Φ 3 c ∗ bigSepL order fun x => Φ 3 (ahead c x.2))) := by
  rw [bigSep_univ_prod, bigSep_fin4, bigSep_up (Φ 0), bigSep_up (Φ 2)]
  rw [bigSep_devs c (Φ 1), bigSep_devs c (Φ 3)]

theorem bigSepL_of_persistent {α : Type} {R : sProp M} [BI.Persistent R] (Φ : α → sProp M) (h : ∀ a, R ⊢ Φ a) : ∀ l : List α, R ⊢ bigSepL l Φ
  | [] => by rw [bigSepL_nil]; iintro -; iempintro
  | a :: l => by
    rw [bigSepL_cons']
    have ih := bigSepL_of_persistent Φ h l
    iintro #H
    isplitr
    · iapply (h a); iexact H
    · iapply ih; iexact H

end Split

/-! ## The launch -/

abbrev tcell (d : Dev nD) (o : Fin 31) : Fin 5 → GSem nD τ sig
  | 0 => barC (ahead d (stepAt o))
  | 1 => ownC (ahead d (stepAt o)) 1 d
  | 2 => ownC (ahead d (stepAt o)) 3 d
  | 3 => ownC d 0 (up o)
  | 4 => ownC d 2 (up o)

theorem ahead_inj {d : Dev nD} {r r' : Fin 31} (h : ahead d r = ahead d r') : r = r' := by
  have h' : (d.val + r.val + 1) % 32 = (d.val + r'.val + 1) % 32 := congrArg Fin.val h
  have := r.isLt; have := r'.isLt
  exact Fin.ext (by omega)
theorem step_inj {o o' : Fin 31} (h : stepAt o = stepAt o') : o = o' := by
  rw [← placeOf_stepAt o, h, placeOf_stepAt]

theorem role_barC (d : Dev nD) : role (barC d).2 = .bar := rfl
theorem role_ownC (d : Dev nD) (k : Fin 4) (j : Fin 32) : role (ownC d k j).2 = .own k j := role_own k j

theorem own_eq {d d' : Dev nD} {k k' : Fin 4} {j j' : Fin 32} (h : ownC d k j = ownC d' k' j') : d = d' ∧ k = k' ∧ j = j' := by
  have h1 : d = d' := congrArg (fun g : GSem nD τ sig => g.1.1) h
  have h2 := congrArg (fun g : GSem nD τ sig => role g.2) h
  simp only [role_own] at h2
  injection h2 with h2 h3
  exact ⟨h1, h2, h3⟩
theorem bar_ne_own {d d' : Dev nD} {k : Fin 4} {j : Fin 32} : barC d ≠ ownC d' k j := fun h => by
  have h2 := congrArg (fun g : GSem nD τ sig => g.2) h
  cases h2
theorem bar_eq {d d' : Dev nD} (h : barC d = barC d') : d = d' := congrArg (fun g : GSem nD τ sig => g.1.1) h

theorem tcell_inj {d : Dev nD} {o o' : Fin 31} {k k' : Fin 5} (h : tcell d o k = tcell d o' k') : o = o' ∧ k = k' := by
  match k, k' with
  | 0, 0 => exact ⟨step_inj (ahead_inj (bar_eq h)), rfl⟩
  | 1, 1 => exact ⟨step_inj (ahead_inj (own_eq h).1), rfl⟩
  | 2, 2 => exact ⟨step_inj (ahead_inj (own_eq h).1), rfl⟩
  | 3, 3 => exact ⟨Fin.castLE_injective _ (own_eq h).2.2, rfl⟩
  | 4, 4 => exact ⟨Fin.castLE_injective _ (own_eq h).2.2, rfl⟩
  | 0, 1 => exact absurd h bar_ne_own
  | 0, 2 => exact absurd h bar_ne_own
  | 0, 3 => exact absurd h bar_ne_own
  | 0, 4 => exact absurd h bar_ne_own
  | 1, 0 => exact absurd h.symm bar_ne_own
  | 2, 0 => exact absurd h.symm bar_ne_own
  | 3, 0 => exact absurd h.symm bar_ne_own
  | 4, 0 => exact absurd h.symm bar_ne_own
  | 1, 2 => exact absurd (own_eq h).2.1 (by decide)
  | 1, 3 => exact absurd (own_eq h).2.1 (by decide)
  | 1, 4 => exact absurd (own_eq h).2.1 (by decide)
  | 2, 1 => exact absurd (own_eq h).2.1 (by decide)
  | 2, 3 => exact absurd (own_eq h).2.1 (by decide)
  | 2, 4 => exact absurd (own_eq h).2.1 (by decide)
  | 3, 1 => exact absurd (own_eq h).2.1 (by decide)
  | 3, 2 => exact absurd (own_eq h).2.1 (by decide)
  | 3, 4 => exact absurd (own_eq h).2.1 (by decide)
  | 4, 1 => exact absurd (own_eq h).2.1 (by decide)
  | 4, 2 => exact absurd (own_eq h).2.1 (by decide)
  | 4, 3 => exact absurd (own_eq h).2.1 (by decide)

/-- Every duty's token, listed by the device that pays it. -/
def allToks : Finset (GSem nD τ sig × ℕ × Dev nD) :=
  Finset.univ.map ⟨fun x : Dev nD × (Fin 31 × Fin 5) => (tcell x.1 x.2.1 x.2.2, 0, x.1), fun x y h => by
    have h1 : x.1 = y.1 := congrArg (fun t : GSem nD τ sig × ℕ × Dev nD => t.2.2) h
    have h2 : tcell x.1 x.2.1 x.2.2 = tcell y.1 y.2.1 y.2.2 := congrArg (fun t : GSem nD τ sig × ℕ × Dev nD => t.1) h
    rw [← h1] at h2
    exact Prod.ext h1 (Prod.ext (tcell_inj h2).1 (tcell_inj h2).2)⟩

/-- The tokens of the duties that device `c` pays at one place of its order. -/
def tks (c : Dev nD) (x : Fin 31 × Fin 31) : sProp 𝕄 :=
  iprop(dutyTok ER (barC (ahead c x.2)) 0 c ∗ dutyTok ER (ownC (ahead c x.2) 1 c) 0 c ∗ dutyTok ER (ownC (ahead c x.2) 3 c) 0 c
    ∗ dutyTok ER (ownC c 0 (up x.1)) 0 c ∗ dutyTok ER (ownC c 2 (up x.1)) 0 c)

theorem bigSep_fin5 {M : Type} [URA M] (Φ : Fin 5 → sProp M) : bigSep Finset.univ Φ = iprop(Φ 0 ∗ Φ 1 ∗ Φ 2 ∗ Φ 3 ∗ Φ 4) :=
  bigSep_univ_eq_bigSepL [(0 : Fin 5), 1, 2, 3, 4] (by decide) (by decide) Φ

theorem bigSepL_congr {M : Type} [URA M] {α : Type} {Φ Ψ : α → sProp M} : ∀ {l : List α}, (∀ a ∈ l, Φ a = Ψ a) → bigSepL l Φ = bigSepL l Ψ
  | [], _ => by rw [bigSepL_nil, bigSepL_nil]
  | a :: l, h => by rw [bigSepL_cons', bigSepL_cons', h a List.mem_cons_self, bigSepL_congr fun a ha => h a (List.mem_cons_of_mem _ ha)]

theorem allToks_eq : bigSep allToks (fun x => (dutyTok ER x.1 x.2.1 x.2.2 : sProp 𝕄)) = bigSep Finset.univ fun c : Dev nD => bigSepL order (tks c) := by
  unfold allToks
  rw [bigSep_map, bigSep_univ_prod]
  refine bigSep_congr fun c _ => ?_
  rw [bigSep_univ_prod, bigSep_fin31]
  refine bigSepL_congr fun x hx => ?_
  rw [bigSep_fin5]
  unfold tks
  rw [← order_step hx]
  rfl

theorem disjoint_cells : Disjoint (barCells : Finset (GSem nD τ sig)) ownCells := by
  rw [Finset.disjoint_left]
  rintro g h₁ h₂
  obtain ⟨c, -, rfl⟩ := Finset.mem_map.mp h₁
  obtain ⟨x, -, h⟩ := Finset.mem_map.mp h₂
  exact bar_ne_own h.symm

variable (Sb : Dev nD → Buf3 F)

/-- What every device may consult, under one map of names. -/
def records (κ : GSem nD τ sig → ℕ) : sProp 𝕄 := iprop(know Sb κ ∗ bigSep barCells fun g => reached ER g 0)

instance records_persistent (κ : GSem nD τ sig → ℕ) : BI.Persistent (records Sb κ) := by unfold records; infer_instance

/-- What stays with device `c`: its barrier's position, the rights to open its own cells, the tokens of the duties it pays. -/
def linear (c : Dev nD) : sProp 𝕄 :=
  iprop(atPos ER (barC c) 0 ∅ 0 ∗ (bigSep Finset.univ fun kj : Fin 4 × Fin 32 => openTok ER (ownC c kj.1 kj.2)) ∗ bigSepL order (tks c))

/-- What the others owe device `c`. -/
def creds (c : Dev nD) : sProp 𝕄 :=
  iprop(cred (tallyAt (barC c) () 31) ∗ (bigSepL order fun x => cred (tallyAt (ownC c 1 (ahead c x.2)) () N))
    ∗ bigSepL order fun x => cred (tallyAt (ownC c 3 (ahead c x.2)) () N))

/-- The protocol's part of a device's state before the call. -/
def Tk (c : Dev nD) : sProp 𝕄 := iprop((∃ κ, records Sb κ) ∗ linear c ∗ creds c)

/-- The own semaphores that the body does not use. -/
def spare (c : Dev nD) : sProp 𝕄 :=
  iprop(semVal (ownC c 0 31) 0 ∗ semVal (ownC c 1 c) 0 ∗ semVal (ownC c 2 31) 0 ∗ semVal (ownC c 3 c) 0)

/-- The protocol's part as the body starts. -/
def Xk (c : Dev nD) : sProp 𝕄 := iprop(start c ∗ spare c ∗ ∃ κ, know Sb κ)

theorem reached_bar (c : Dev nD) : (bigSep barCells fun g => (reached ER g 0 : sProp 𝕄)) ⊢ reached ER (barC c) 0 :=
  bigSep_elim (Finset.mem_map_of_mem barEmb (Finset.mem_univ c))

theorem open_list {α : Type} (κ : GSem nD τ sig → ℕ) (c : Dev nD) (k : Fin 4) (j : α → Fin 32) : ∀ l : List α,
    iprop(know Sb κ ∗ (bigSepL l fun a => openTok ER (ownC c k (j a))) ∗ bigSepL l fun a => semVal (ownC c k (j a)) 0)
      ⊢ (|={Set.univ}=> iprop((bigSepL l fun a => atPos ER (ownC c k (j a)) 0 ∅ 0) ∗ bigSepL l fun a => reached ER (ownC c k (j a)) 0) : sProp 𝕄)
  | [] => by
    rw [bigSepL_nil, bigSepL_nil, bigSepL_nil, bigSepL_nil]
    iintro -; imodintro; isplitr <;> iempintro
  | a :: l => by
    rw [bigSepL_cons', bigSepL_cons', bigSepL_cons', bigSepL_cons']
    have ih := open_list κ c k j l
    iintro ⟨#HK, ⟨Ho, Hos⟩, Hv, Hvs⟩
    imod ih $$ [Hos Hvs] with ⟨Hps, Hrs⟩
    · isplitr; · iexact HK
      isplitl [Hos] <;> iassumption
    imod (Rounds.cell_open ER (xRd Sb) (g := ownC c k (j a)) (Set.mem_univ (κ (ownC c k (j a))))) $$ [Ho Hv] with ⟨Hp, Hr⟩
    · isplitr; · iapply (know_own Sb κ c k (j a)); iexact HK
      isplitl [Ho] <;> iassumption
    imodintro
    isplitl [Hp Hps]
    · isplitl [Hp] <;> iassumption
    · isplitl [Hr] <;> iassumption

theorem bar_list (κ : GSem nD τ sig → ℕ) (c : Dev nD) : records Sb κ ⊢ bigSepL order fun x => reached ER (barC (ahead c x.2)) 0 :=
  bigSepL_of_persistent (R := records Sb κ) (fun x : Fin 31 × Fin 31 => (reached ER (barC (ahead c x.2)) 0 : sProp 𝕄)) (fun x => by
    unfold records; iintro ⟨-, #H⟩; iapply (reached_bar (F := F) (ahead c x.2)); iexact H) order

theorem tks_split (c : Dev nD) : bigSepL order (tks c) ⊢ (iprop((bigSepL order fun x => dutyTok ER (barC (ahead c x.2)) 0 c)
    ∗ (bigSepL order fun x => dutyTok ER (ownC (ahead c x.2) 1 c) 0 c) ∗ (bigSepL order fun x => dutyTok ER (ownC (ahead c x.2) 3 c) 0 c)
    ∗ (bigSepL order fun x => dutyTok ER (ownC c 0 (up x.1)) 0 c) ∗ bigSepL order fun x => dutyTok ER (ownC c 2 (up x.1)) 0 c) : sProp 𝕄) := by
  unfold tks
  refine (bigSepL_sep _ _ _).1.trans (sep_mono_right ((bigSepL_sep _ _ _).1.trans (sep_mono_right ((bigSepL_sep _ _ _).1.trans (sep_mono_right ?_)))))
  exact (bigSepL_sep _ _ _).1

theorem make_tkB (c : Dev nD) : iprop((bigSepL order fun x => dutyTok ER (barC (ahead c x.2)) 0 c) ∗ (bigSepL order fun x => reached ER (barC (ahead c x.2)) 0)
    ∗ (bigSepL order fun x => reached ER (ownC c 1 (ahead c x.2)) 0) ∗ bigSepL order fun x => reached ER (ownC c 3 (ahead c x.2)) 0)
    ⊢ (bigSepL order (tkB c) : sProp 𝕄) := by
  unfold tkB
  refine BIBase.Entails.trans ?_ (bigSepL_sep _ _ _).2
  refine sep_mono_right (BIBase.Entails.trans ?_ (bigSepL_sep _ _ _).2)
  exact sep_mono_right (bigSepL_sep _ _ _).2

theorem make_tk1 (c : Dev nD) : iprop((bigSepL order fun x => dutyTok ER (ownC c 0 (up x.1)) 0 c) ∗ (bigSepL order fun x => reached ER (ownC c 0 (up x.1)) 0)
    ∗ bigSepL order fun x => dutyTok ER (ownC (ahead c x.2) 1 c) 0 c) ⊢ (bigSepL order (tk1 c) : sProp 𝕄) := by
  unfold tk1
  refine BIBase.Entails.trans ?_ (bigSepL_sep _ _ _).2
  exact sep_mono_right (bigSepL_sep _ _ _).2
theorem make_tk2 (c : Dev nD) : iprop((bigSepL order fun x => dutyTok ER (ownC c 2 (up x.1)) 0 c) ∗ (bigSepL order fun x => reached ER (ownC c 2 (up x.1)) 0)
    ∗ bigSepL order fun x => dutyTok ER (ownC (ahead c x.2) 3 c) 0 c) ⊢ (bigSepL order (tk2 c) : sProp 𝕄) := by
  unfold tk2
  refine BIBase.Entails.trans ?_ (bigSepL_sep _ _ _).2
  exact sep_mono_right (bigSepL_sep _ _ _).2
theorem make_rt (c : Dev nD) (k : Fin 4) : iprop((bigSepL order fun x => cred (tallyAt (ownC c k (ahead c x.2)) () N))
    ∗ bigSepL order fun x => atPos ER (ownC c k (ahead c x.2)) 0 ∅ 0) ⊢ (bigSepL order fun x => rt c k (ahead c x.2) : sProp 𝕄) := by
  unfold rt
  exact (bigSepL_sep _ _ _).2

/-- Entering the call: the device opens the cells it uses. -/
theorem enter (c : Dev nD) : iprop(Tk Sb c ∗ Pipeline.ownSems0 osem c ∗ levAts L lv) ⊢ (|={Set.univ}=> Xk Sb c : sProp 𝕄) := by
  unfold Tk linear creds Pipeline.ownSems0
  rw [own_split c fun k j => (openTok ER (ownC c k j) : sProp 𝕄), own_split c fun k j => (semVal (ownC c k j) 0 : sProp 𝕄)]
  iintro ⟨⟨⟨%κ, #HR⟩, ⟨Hbar, ⟨⟨-, Ho0⟩, ⟨-, Ho1⟩, ⟨-, Ho2⟩, ⟨-, Ho3⟩⟩, Htk⟩, Hc, Hc1, Hc3⟩, ⟨⟨Hv0, Hvs0⟩, ⟨Hv1, Hvs1⟩, ⟨Hv2, Hvs2⟩, ⟨Hv3, Hvs3⟩⟩, -⟩
  ihave #HB := (bar_list Sb κ c) $$ HR
  unfold records
  icases HR with ⟨#HK, -⟩
  ihave Htk := (tks_split c) $$ Htk
  icases Htk with ⟨HtB, Ht1, Ht3, Ht0, Ht2⟩
  imod (open_list Sb κ c 0 (fun x : Fin 31 × Fin 31 => up x.1) order) $$ [Ho0 Hvs0] with ⟨Hp0, Hr0⟩
  · isplitr; · iexact HK
    isplitl [Ho0] <;> iassumption
  imod (open_list Sb κ c 1 (fun x : Fin 31 × Fin 31 => ahead c x.2) order) $$ [Ho1 Hvs1] with ⟨Hp1, Hr1⟩
  · isplitr; · iexact HK
    isplitl [Ho1] <;> iassumption
  imod (open_list Sb κ c 2 (fun x : Fin 31 × Fin 31 => up x.1) order) $$ [Ho2 Hvs2] with ⟨Hp2, Hr2⟩
  · isplitr; · iexact HK
    isplitl [Ho2] <;> iassumption
  imod (open_list Sb κ c 3 (fun x : Fin 31 × Fin 31 => ahead c x.2) order) $$ [Ho3 Hvs3] with ⟨Hp3, Hr3⟩
  · isplitr; · iexact HK
    isplitl [Ho3] <;> iassumption
  imodintro
  unfold Xk start spare pos0
  isplitr [Hv0 Hv1 Hv2 Hv3]
  · isplitl [Hc Hbar]
    · isplitl [Hc] <;> iassumption
    isplitl [HtB Hr1 Hr3]
    · iapply (make_tkB c)
      isplitl [HtB]; · iexact HtB
      isplitr; · iexact HB
      isplitl [Hr1] <;> iassumption
    isplitl [Ht0 Hr0 Ht1]
    · iapply (make_tk1 c)
      isplitl [Ht0]; · iexact Ht0
      isplitl [Hr0] <;> iassumption
    isplitl [Ht2 Hr2 Ht3]
    · iapply (make_tk2 c)
      isplitl [Ht2]; · iexact Ht2
      isplitl [Hr2] <;> iassumption
    isplitl [Hc1 Hp1]
    · iapply (make_rt c 1)
      isplitl [Hc1] <;> iassumption
    isplitl [Hc3 Hp3]
    · iapply (make_rt c 3)
      isplitl [Hc3] <;> iassumption
    isplitl [Hp0] <;> iassumption
  isplitl [Hv0 Hv1 Hv2 Hv3]
  · isplitl [Hv0]; · iexact Hv0
    isplitl [Hv1]; · iexact Hv1
    isplitl [Hv2] <;> iassumption
  iexists κ; iexact HK

/-- Leaving it: every own semaphore is back at zero. -/
theorem leave (c : Dev nD) (h0 : (bigSepL (List.finRange 31) fun o => (semVal (ownC c 0 (up o)) 0 : sProp 𝕄)) = bigSepL order fun x => semVal (ownC c 0 (up x.1)) 0)
    (h2 : (bigSepL (List.finRange 31) fun o => (semVal (ownC c 2 (up o)) 0 : sProp 𝕄)) = bigSepL order fun x => semVal (ownC c 2 (up x.1)) 0) :
    iprop(spare c ∗ (bigSepL (List.finRange 31) fun o => semVal (ownC c 0 (up o)) 0) ∗ (bigSepL order fun x => semVal (ownC c 1 (ahead c x.2)) 0)
      ∗ (bigSepL (List.finRange 31) fun o => semVal (ownC c 2 (up o)) 0) ∗ bigSepL order fun x => semVal (ownC c 3 (ahead c x.2)) 0)
    ⊢ (Pipeline.ownSems0 osem c : sProp 𝕄) := by
  unfold Pipeline.ownSems0 spare
  rw [own_split c fun k j => (semVal (ownC c k j) 0 : sProp 𝕄), h0, h2]
  iintro ⟨⟨H0, H1, H2, H3⟩, Hs0, Hs1, Hs2, Hs3⟩
  isplitl [H0 Hs0]
  · isplitl [H0] <;> iassumption
  isplitl [H1 Hs1]
  · isplitl [H1] <;> iassumption
  isplitl [H2 Hs2]
  · isplitl [H2] <;> iassumption
  isplitl [H3] <;> iassumption

end Cert.KernelIdeal.A2A

end
-- ==== Proof.Fund.lean ====
/- What the devices owe each other at the start, cell by cell, and the start of the program: every cell's record made, every
   device dealt its part. -/
module

public import proofs.«01_k».proof.Proof.Ghost
public import proofs.«01_k».proof.Proof.Gen.KernelIdeal.Regions

@[expose] public section

noncomputable section

namespace Cert.KernelIdeal.A2A

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-! ## The debts -/

theorem owB_bar (d c : Dev nD) : ∀ l : List (Dev nD), owB d l (barC c) () = if d = c then 0 else l.count c
  | [] => by unfold owB; rw [List.count_nil]; split <;> rfl
  | e :: l => by
    unfold owB
    by_cases hde : d = e
    · rw [if_neg (fun h => h hde), owB_bar d c l]
      by_cases hdc : d = c
      · rw [if_pos hdc, if_pos hdc]
      · rw [if_neg hdc, if_neg hdc, List.count_cons_of_ne (fun h => hdc (hde.trans h))]
    · rw [if_pos hde, Pi.add_apply, Finsupp.add_apply, owB_bar d c l, tallyAt_apply]
      by_cases hdc : d = c
      · rw [if_pos hdc, if_pos hdc, if_neg (fun h => hde (hdc.trans (bar_eq h.1)))]
      · rw [if_neg hdc, if_neg hdc]
        by_cases hec : e = c
        · subst hec; rw [if_pos ⟨rfl, rfl⟩, List.count_cons_self]
        · rw [if_neg (fun h => hec (bar_eq h.1).symm), List.count_cons_of_ne hec, Nat.add_zero]

theorem owB_own (d c : Dev nD) (k : Fin 4) (j : Fin 32) (l : List (Dev nD)) : owB d l (ownC c k j) () = 0 :=
  Nat.eq_zero_of_not_pos fun h => let ⟨_, he⟩ := owB_pos h; bar_ne_own he.symm

theorem owX_bar (k : Fin 4) (d c : Dev nD) (l : List (Dev nD)) : owX k d l (barC c) () = 0 :=
  Nat.eq_zero_of_not_pos fun h => let ⟨_, he⟩ := owX_pos h; bar_ne_own he

theorem owX_other (k k' : Fin 4) (hk : k' ≠ k) (d c : Dev nD) (j : Fin 32) (l : List (Dev nD)) : owX k d l (ownC c k' j) () = 0 :=
  Nat.eq_zero_of_not_pos fun h => let ⟨_, he⟩ := owX_pos h; hk (own_eq he).2.1

theorem owX_own (k : Fin 4) (d c : Dev nD) (j : Fin 32) : ∀ l : List (Dev nD), owX k d l (ownC c k j) () = if d = j then l.count c * N else 0
  | [] => by unfold owX; rw [List.count_nil, Nat.zero_mul]; split <;> rfl
  | e :: l => by
    unfold owX
    rw [Pi.add_apply, Finsupp.add_apply, owX_own k d c j l, tallyAt_apply]
    by_cases hj : d = j
    · subst hj
      rw [if_pos rfl, if_pos rfl]
      by_cases hec : e = c
      · subst hec; rw [if_pos ⟨rfl, rfl⟩, List.count_cons_self, Nat.add_mul, Nat.one_mul]
      · rw [if_neg (fun h => hec (own_eq h.1).1.symm), List.count_cons_of_ne hec, Nat.add_zero]
    · rw [if_neg hj, if_neg hj, if_neg (fun h => hj (own_eq h.1).2.2.symm)]

theorem count_all (c : Dev nD) : allDevs.count c = 1 := by revert c; decide +kernel
theorem count_others (d c : Dev nD) (h : d ≠ c) : (others d).count c = 1 :=
  List.count_eq_one_of_mem (others_nodup d) (List.mem_toFinset.mp (by rw [others_set d]; exact Finset.mem_erase.mpr ⟨h.symm, Finset.mem_univ _⟩))

theorem owed_bar (d c : Dev nD) : O₀ d (barC c) () = if d = c then 0 else 1 := by
  unfold O₀
  rw [Pi.add_apply, Finsupp.add_apply, Pi.add_apply, Finsupp.add_apply, owX_bar, owX_bar, owB_bar, count_all, Nat.zero_add]
theorem owed_in1 (d c : Dev nD) (j : Fin 32) : O₀ d (ownC c 1 j) () = if d = j then (others d).count c * N else 0 := by
  unfold O₀
  rw [Pi.add_apply, Finsupp.add_apply, Pi.add_apply, Finsupp.add_apply, owX_other 3 1 (by decide), owB_own, owX_own, Nat.zero_add, Nat.add_zero]
theorem owed_in3 (d c : Dev nD) (j : Fin 32) : O₀ d (ownC c 3 j) () = if d = j then (others d).count c * N else 0 := by
  unfold O₀
  rw [Pi.add_apply, Finsupp.add_apply, Pi.add_apply, Finsupp.add_apply, owX_other 1 3 (by decide), owB_own, owX_own, Nat.add_zero]

theorem launch_bar (c : Dev nD) :
    tallyOn (barC c) (launchCredit (Pipeline.owing O₀) 0 (barC c)) = (tallyAt (barC c) () 31 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel
theorem launch_in1 (c e : Dev nD) (h : e ≠ c) :
    tallyOn (ownC c 1 e) (launchCredit (Pipeline.owing O₀) 0 (ownC c 1 e)) = (tallyAt (ownC c 1 e) () N : CellTallies nD τ sig Unit) := by
  unfold tallyAt; refine congrArg _ (Finsupp.ext fun u => ?_); cases u
  rw [Pipeline.launchCredit_owing, Finsupp.single_eq_same, Finset.sum_congr rfl fun d _ => owed_in1 d c e,
    Finset.sum_ite_eq' Finset.univ e fun d => (others d).count c * N, if_pos (Finset.mem_univ _), count_others e c h, Nat.one_mul]
theorem launch_in3 (c e : Dev nD) (h : e ≠ c) :
    tallyOn (ownC c 3 e) (launchCredit (Pipeline.owing O₀) 0 (ownC c 3 e)) = (tallyAt (ownC c 3 e) () N : CellTallies nD τ sig Unit) := by
  unfold tallyAt; refine congrArg _ (Finsupp.ext fun u => ?_); cases u
  rw [Pipeline.launchCredit_owing, Finsupp.single_eq_same, Finset.sum_congr rfl fun d _ => owed_in3 d c e,
    Finset.sum_ite_eq' Finset.univ e fun d => (others d).count c * N, if_pos (Finset.mem_univ _), count_others e c h, Nat.one_mul]

theorem deal_creds (c : Dev nD) : (Pipeline.launchCred O₀ c : sProp 𝕄) ⊢ creds c := by
  unfold Pipeline.launchCred creds
  rw [bigSep_univ_at _ (SemLoc.reg barS : SemLoc sig), launch_bar]
  refine sep_mono_right ?_
  refine BIBase.Entails.trans (bigSep_subset (t := Finset.univ.map ⟨osem, dsem_inj⟩) ?_) ?_
  · intro sm hsm
    obtain ⟨kj, -, rfl⟩ := Finset.mem_map.mp hsm
    exact Finset.mem_erase.mpr ⟨osem_ne_bar kj, Finset.mem_univ _⟩
  rw [bigSep_map]
  refine BIBase.Entails.trans (Entails.of_eq (own_split c fun k j => (cred (tallyOn (ownC c k j) (launchCredit (Pipeline.owing O₀) 0 (ownC c k j))) : sProp 𝕄))) ?_
  rw [bigSepL_congr (l := order) fun x _ => congrArg (fun t => (cred t : sProp 𝕄)) (launch_in1 c (ahead c x.2) (ahead_ne c x.2)),
    bigSepL_congr (l := order) fun x _ => congrArg (fun t => (cred t : sProp 𝕄)) (launch_in3 c (ahead c x.2) (ahead_ne c x.2))]
  iintro ⟨-, ⟨-, H1⟩, -, -, H3⟩
  isplitl [H1] <;> iassumption

/-! ## The start -/

variable (Sb : Dev nD → Buf3 F) (ρ : Dev nD → PrngReg)

/-- A resource dealt to one device alone. -/
def atDev (c₀ : Dev nD) (X : sProp 𝕄) (c : Dev nD) : sProp 𝕄 := if c = c₀ then X else iprop(emp)
theorem bigSep_atDev (c₀ : Dev nD) (X : sProp 𝕄) : bigSep Finset.univ (atDev c₀ X) = X := by
  rw [bigSep_univ_at _ c₀, bigSep_congr (s := Finset.univ.erase c₀) (Ψ := fun _ => (BI.emp : sProp 𝕄))
      fun c hc => by unfold atDev; rw [if_neg (Finset.ne_of_mem_erase hc)]; rfl, BI.bigSep_emp_const]
  unfold atDev; rw [if_pos rfl]
  exact BI.equiv_iff.mp sep_emp

/-- The exchange's initial element. -/
abbrev xElem : UX := launchOf barCells ownCells allToks

def G : Dev nD → sProp 𝕄 := atDev 0 (BI.own (ER xElem))

def u₀ : UU :=
  (initOf (Pipeline.cells (Pipeline.pin (pcfgs (F := F)) adm) cellOf_inj) (Pipeline.launchToks (Pipeline.pin (pcfgs (F := F)) adm) cellOf_inj), xElem)

/-- What rides beside the host's buffers: before the call, and after it. -/
def E : Fin 2 → Dev nD → sProp 𝕄
  | 0 => fun c => iprop(Tk Sb c ∗ (∃ r, prngReg c r) ∗ ∃ W, owes (c : Thread nD τ) (O₀ c) W)
  | 1 => fun c => iprop(semVal (barC c) 0 ∗ ∃ W, owes (c : Thread nD τ) (0 : CellTallies nD τ sig Unit) W)

theorem zip_in {Φ Ψ : Dev nD → sProp 𝕄} : iprop(bigSep Finset.univ Φ ∗ bigSep Finset.univ Ψ) ⊢ bigSep Finset.univ fun c => iprop(Φ c ∗ Ψ c) :=
  Entails.of_eq (bigSep_sep' ..).symm
theorem zip_out {Φ Ψ : Dev nD → sProp 𝕄} : (bigSep Finset.univ fun c => iprop(Φ c ∗ Ψ c)) ⊢ iprop(bigSep Finset.univ Φ ∗ bigSep Finset.univ Ψ) :=
  Entails.of_eq (bigSep_sep' ..)

/-- What of a device's holdings is not a share of the cells' initial element. -/
def rest (c : Dev nD) : sProp 𝕄 := iprop(creds c ∗ (∃ r, prngReg c r) ∗ ∃ W, owes (c : Thread nD τ) (O₀ c) W)

theorem E0_intro (κ : GSem nD τ sig → ℕ) (c : Dev nD) : iprop(records Sb κ ∗ (linear c ∗ rest c)) ⊢ E Sb 0 c := by
  unfold E Tk rest
  iintro ⟨#HR, Hl, Hc, Hp, HO⟩
  isplitl [Hl Hc]
  · isplitr; · iexists κ; iexact HR
    isplitl [Hl] <;> iassumption
  isplitl [Hp] <;> iassumption

theorem deal :
    iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E Sb 0) : sProp 𝕄) := by
  have hcore (c : Dev nD) : iprop(unscopedSems0 c ∗ owes (c : Thread nD τ) (O₀ c) ∅ ∗ Pipeline.launchCred O₀ c ∗ prngReg c (ρ c) ∗ G c)
      ⊢ (iprop(rest c ∗ (semVal (barC c) 0 ∗ G c)) : sProp 𝕄) := by
    unfold rest
    iintro ⟨Hus, HO, Hcr, Hp, HG⟩
    isplitl [HO Hcr Hp]
    · isplitl [Hcr]; · iapply (deal_creds (F := F) c) $$ Hcr
      isplitl [Hp]; · iexists (ρ c); iexact Hp
      iexists ∅; iexact HO
    isplitl [Hus]
    · iapply (show (unscopedSems0 c : sProp 𝕄) ⊢ semVal (barC c) 0 from bigSep_elim (Finset.mem_filter.mpr ⟨Finset.mem_univ (SemLoc.reg barS : SemLoc sig), by decide⟩)) $$ Hus
    · iexact HG
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => bigSep Finset.univ fun kj : Fin 4 × Fin 32 => (openTok ER (ownC c kj.1 kj.2) : sProp 𝕄)) :=
    Entails.of_eq (by rw [bigSep_map, bigSep_univ_prod]; rfl)
  iintro ⟨H, #Hlev⟩
  ihave H' := (show (bigSep Finset.univ fun c : Dev nD => iprop(unscopedSems0 c ∗ owes (c : Thread nD τ) (O₀ c) ∅ ∗ Pipeline.launchCred O₀ c ∗ prngReg c (ρ c) ∗ G c))
      ⊢ (bigSep Finset.univ fun c : Dev nD => iprop(rest c ∗ (semVal (barC c) 0 ∗ G c)) : sProp 𝕄) from bigSep_mono fun c _ => hcore c) $$ H
  ihave H2 := zip_out $$ H'; icases H2 with ⟨HB, H3⟩
  ihave H4 := zip_out $$ H3; icases H4 with ⟨Hv, HG⟩
  ihave Hu := (show bigSep Finset.univ (G (F := F)) ⊢ BI.own (ER xElem) from Entails.of_eq (bigSep_atDev (F := F) 0 (BI.own (ER xElem)))) $$ HG
  imod (Rounds.fund_launch ER (xRd Sb) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := records Sb κ) (Φ := fun c => iprop(linear c ∗ rest c)) fun c _ => E0_intro Sb κ c)
  isplitr
  · unfold records know
    isplitr
    · isplitr; · iexact Hinv
      iexact Hlev
    iexact Hr
  iapply zip_in
  isplitr [HB]
  · unfold linear
    iapply zip_in; isplitl [Hat]; · iapply hat $$ Hat
    iapply zip_in; isplitl [Hopen]; · iapply hopen $$ Hopen
    iapply (Entails.of_eq (allToks_eq (F := F))) $$ Htok
  · iexact HB

end Cert.KernelIdeal.A2A

end
-- ==== Proof.Point.lean ====
/- The region's proof data and the body obligation at its one point. -/
module

public import proofs.«01_k».proof.Proof.Fund
public import proofs.«01_k».proof.Proof.Gen.KernelIdeal.Points

@[expose] public section

noncomputable section

namespace Cert.KernelIdeal.A2A

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-! ## A window that is its whole array -/

theorem read_w0 (f : Vec F S256x512 .f32) : (win0_0.blk t0_0).view.read (Elt F) f = f :=
  Memref.read_access_unit_zero (Elt F) main_v17 (funext fun a => by fin_cases a <;> decide) (fun a => by fin_cases a <;> decide) f
theorem read_w1 (f : Vec F S512x512 .f32) : (win0_1.blk t0_0).view.read (Elt F) f = f :=
  Memref.read_access_unit_zero (Elt F) main_arg1 (funext fun a => by fin_cases a <;> decide) (fun a => by fin_cases a <;> decide) f
theorem read_w2 (f : Vec F S512x512 .f32) : (win0_2.blk t0_0).view.read (Elt F) f = f :=
  Memref.read_access_unit_zero (Elt F) main_arg4 (funext fun a => by fin_cases a <;> decide) (fun a => by fin_cases a <;> decide) f
theorem read_w3 (f : Vec F S2x2x64x128 .f32) : (win0_3.blk t0_0).view.read (Elt F) f = f :=
  Memref.read_access_unit_zero (Elt F) main_v15 (funext fun a => by fin_cases a <;> decide) (fun a => by fin_cases a <;> decide) f
theorem read_w4 (f : Vec F S2x2x128x64 .f32) : (win0_4.blk t0_0).view.read (Elt F) f = f :=
  Memref.read_access_unit_zero (Elt F) main_v16 (funext fun a => by fin_cases a <;> decide) (fun a => by fin_cases a <;> decide) f
theorem read_w5 (f : Vec F S256x512 .f32) : (win0_5.blk t0_0).view.read (Elt F) f = f :=
  Memref.read_access_unit_zero (Elt F) main_v18 (funext fun a => by fin_cases a <;> decide) (fun a => by fin_cases a <;> decide) f

/-! ## The proof data -/

variable (m : (ℓ : Loc nD τ sig) → Buf (Elt F) ℓ)

/-- What device `c` brings to the region: its tokens, its sequence of rows, its blocks of the weights, the keys and the values of its group of heads. -/
abbrev xB (c : Dev nD) : Vec F S256x512 .f32 := V1 m c main_v17
abbrev wqB (c : Dev nD) : Vec F S512x512 .f32 := V1 m c main_arg1
abbrev woB (c : Dev nD) : Vec F S512x512 .f32 := V1 m c main_arg4
abbrev ktB (c : Dev nD) : Vec F S2x2x64x128 .f32 := V1 m c main_v15
abbrev vtB (c : Dev nD) : Vec F S2x2x128x64 .f32 := V1 m c main_v16

/-- Every device's partial product. -/
def Sb (d : Dev nD) : Buf3 F := part (xB m d) (wqB m d) (woB m d) (ktB m d) (vtB m d)

/-- What every device ends with. -/
def result : Vec F S256x512 .f32 := k0_pay56 (full (Sb m))

/-- What the region leaves in the buffers it may change. -/
def outs : Outs (F := F) := fun _ r c => Function.update (V0 m c) (Proc.devRef .tc main_v18) (result m) (Proc.devRef .tc r)
theorem outs_v18 (c : Dev nD) : outs m 2 main_v18 c = result m := Function.update_self ..

/-- The buffers no window stages, at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- Before the point and after it. -/
def inv0 (c : Dev nD) : sProp 𝕄 := iprop(Xk (Sb m) c ∗ scr c ∗ ∃ r, prngReg c r)
def inv1 (c : Dev nD) : sProp 𝕄 := iprop(semVal (barC c) 0 ∗ Pipeline.ownSems0 osem c ∗ scr c ∗ ∃ r, prngReg c r)

def dat0 (c : Dev nD) : Pipeline.Dat τ (Elt F) Unit ℕ UU ℕ cfg0 c where
  A w := V1 m c (Pipeline.arrRef spec0 w)
  after w _ := match w with
    | ⟨0, _⟩ => xB m c
    | ⟨1, _⟩ => wqB m c
    | ⟨2, _⟩ => woB m c
    | ⟨3, _⟩ => ktB m c
    | ⟨4, _⟩ => vtB m c
    | ⟨5, _⟩ => result m
    | ⟨_ + 6, h⟩ => absurd h (Nat.not_lt.2 (Nat.le_add_left _ _))
  Φ t := match t with
    | ⟨0, _⟩ => inv0 m c
    | ⟨_ + 1, _⟩ => inv1 c
  q _ := fullShare
  owed t := match t with
    | ⟨0, _⟩ => O₀ c
    | ⟨_ + 1, _⟩ => 0

def pdats : (p : Fin 1) → (c : Dev nD) → Pipeline.Dat τ (Elt F) Unit ℕ UU ℕ (cfgs p) c
  | 0 => dat0 m

theorem before_0 (c : Dev nD) (d : (cfg0.win 0).block.Idx → Elt F (cfg0.win 0).elt) : (dat0 m c).before 0 t0_0 d = xB m c := by
  unfold Pipeline.Dat.before; rw [if_pos (fetch0_0 _)]; exact read_w0 (xB m c)
theorem before_1 (c : Dev nD) (d : (cfg0.win 1).block.Idx → Elt F (cfg0.win 1).elt) : (dat0 m c).before 1 t0_0 d = wqB m c := by
  unfold Pipeline.Dat.before; rw [if_pos (fetch0_1 _)]; exact read_w1 (wqB m c)
theorem before_2 (c : Dev nD) (d : (cfg0.win 2).block.Idx → Elt F (cfg0.win 2).elt) : (dat0 m c).before 2 t0_0 d = woB m c := by
  unfold Pipeline.Dat.before; rw [if_pos (fetch0_2 _)]; exact read_w2 (woB m c)
theorem before_3 (c : Dev nD) (d : (cfg0.win 3).block.Idx → Elt F (cfg0.win 3).elt) : (dat0 m c).before 3 t0_0 d = ktB m c := by
  unfold Pipeline.Dat.before; rw [if_pos (fetch0_3 _)]; exact read_w3 (ktB m c)
theorem before_4 (c : Dev nD) (d : (cfg0.win 4).block.Idx → Elt F (cfg0.win 4).elt) : (dat0 m c).before 4 t0_0 d = vtB m c := by
  unfold Pipeline.Dat.before; rw [if_pos (fetch0_4 _)]; exact read_w4 (vtB m c)

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem owes_open (c : Dev nD) : ((dat0 m c).owesAt () t0_0.castSucc : sProp 𝕄) ⊢ ∃ W, owes (c : Thread nD τ) (O₀ c) W := by
  unfold Pipeline.Dat.owesAt Pipeline.owesWithin
  iintro ⟨%W, -, H⟩
  iexists W; iexact H
theorem owes_shut (c : Dev nD) : (iprop(∃ W, owes (c : Thread nD τ) (0 : CellTallies nD τ sig Unit) W) : sProp 𝕄) ⊢ (dat0 m c).owesAt () t0_0.succ := by
  unfold Pipeline.Dat.owesAt Pipeline.owesWithin
  iintro ⟨%W, H⟩
  iexists W; isplitr; · ipureintro; exact fun _ _ => Or.inl trivial
  iexact H

set_option maxHeartbeats 1000000 in
theorem body_obligation (c : Dev nD) : BodyObligation (dat0 (F := F) m c) (defs₀ (F := F)) 𝒱₀ () Set.univ := fun t => by
  obtain rfl := fin_N0 t
  rw [bigSep_W0, bigSep_W0]
  simp only [owns_whole]
  rw [show (dat0 m c).Φ t0_0.castSucc = inv0 m c from rfl, show (dat0 m c).Φ t0_0.succ = inv1 c from rfl]
  iintro ⟨HI, HO, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩⟩
  rw [before_0] at hf0; rw [before_1] at hf1; rw [before_2] at hf2; rw [before_3] at hf3; rw [before_4] at hf4
  subst hf0 hf1 hf2 hf3 hf4
  unfold inv0 Xk scr
  icases HI with ⟨⟨Hst, Hsp, ⟨%κ, Hkn⟩⟩, ⟨⟨%s0, Hs0⟩, ⟨%s1, Hs1⟩, ⟨%s2, Hs2⟩⟩, Hp⟩
  ihave HO := (owes_open m c) $$ HO
  iapply (run (Sb m) κ c (xB m c) (wqB m c) (woB m c) (ktB m c) (vtB m c) rfl f5 s0 s1 s2 _)
  unfold inputs ride left
  isplitl [H0 H1 H2 H3 H4]
  · isplitl [H0]; · iexact H0
    isplitl [H1]; · iexact H1
    isplitl [H2]; · iexact H2
    isplitl [H3] <;> iassumption
  isplitl [H5]; · iexact H5
  isplitl [Hs0 Hs1 Hs2]
  · isplitl [Hs0]; · iexact Hs0
    isplitl [Hs1] <;> iassumption
  isplitl [Hst]; · iexact Hst
  isplitl [Hkn HO]
  · isplitl [Hkn] <;> iassumption
  iintro ⟨⟨H0, H1, H2, H3, H4⟩, ⟨Hs0, Hs1, Hs2, H5, Hb, Hl0, Hl1, Hl2, Hl3⟩, -, HO⟩
  isplitl [Hb Hl0 Hl1 Hl2 Hl3 Hsp Hs0 Hs1 Hs2 Hp]
  · unfold inv1 scr
    isplitl [Hb]; · iexact Hb
    isplitl [Hl0 Hl1 Hl2 Hl3 Hsp]
    · iapply (leave c (bigSepL_places fun o => semVal (ownC c 0 (up o)) 0).symm (bigSepL_places fun o => semVal (ownC c 2 (up o)) 0).symm)
      isplitl [Hsp]; · iexact Hsp
      isplitl [Hl0]; · iexact Hl0
      isplitl [Hl1]; · iexact Hl1
      isplitl [Hl2] <;> iassumption
    isplitl [Hs0 Hs1 Hs2]
    · isplitl [Hs0]; · iexists _; iexact Hs0
      isplitl [Hs1]; · iexists _; iexact Hs1
      iexists _; iexact Hs2
    iexact Hp
  isplitl [HO]
  · iapply (owes_shut m c); iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  iexists _; isplitr; swap; (· iexact H5); ipureintro; rfl

end Cert.KernelIdeal.A2A
end
-- ==== Proof.Launch.lean ====
/- The whole program: the region between the two stretches of host operations, and what every run ends with. -/
module

public import proofs.«01_k».proof.Proof.Point

@[expose] public section

noncomputable section

namespace Cert.KernelIdeal.A2A

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The region -/

theorem arrAt_in (c : Dev nD) (w : Fin cfg0.W) (h : (cfg0.win w).isOut = false) (n : ℕ) : (dat0 m c).arrAt w n = V1 m c (Pipeline.arrRef spec0 w) :=
  (dat0 m c).arrAt_in w h n

theorem arrAt_out (c : Dev nD) : (dat0 m c).arrAt 5 cfg0.N = result m := by
  have hw : ((cfg0.win 5).blk t0_0).view.read (Elt F) ((dat0 m c).arrAt 5 cfg0.N) = (dat0 m c).flushed 5 t0_0 := by
    rw [show cfg0.N = t0_0.val + 1 from rfl, (dat0 m c).arrAt_succ (5 : Fin 6) t0_0, flush0_5, if_pos rfl]
    exact View.read_write_univ _ _
  exact (read_w5 _).symm.trans hw

theorem V2_v18 (c : Dev nD) : V2 m (outs m) c main_v18 = result m := by
  rw [show V2 m (outs m) c main_v18 = outs m 2 main_v18 c from Function.update_self ..]
  exact outs_v18 m c

theorem arrAt_first (c : Dev nD) (w : Fin cfg0.W) : (dat0 m c).arrAt w 0 = V1 m c (Proc.devRef .tc (Pipeline.arrRef spec0 w)) := rfl

theorem arrAt_last (c : Dev nD) (w : Fin cfg0.W) : (dat0 m c).arrAt w cfg0.N = V2 m (outs m) c (Proc.devRef .tc (Pipeline.arrRef spec0 w)) := by
  match w with
  | 0 => exact (arrAt_in m c 0 rfl _).trans (V2_of m (outs m) c main_v17 (by decide)).symm
  | 1 => exact (arrAt_in m c 1 rfl _).trans (V2_of m (outs m) c main_arg1 (by decide)).symm
  | 2 => exact (arrAt_in m c 2 rfl _).trans (V2_of m (outs m) c main_arg4 (by decide)).symm
  | 3 => exact (arrAt_in m c 3 rfl _).trans (V2_of m (outs m) c main_v15 (by decide)).symm
  | 4 => exact (arrAt_in m c 4 rfl _).trans (V2_of m (outs m) c main_v16 (by decide)).symm
  | 5 => exact (arrAt_out m c).trans (V2_v18 m c).symm

/-- The unscoped buffers that no window stages. -/
abbrev others' : Finset (DevRef τ sig) := Pipeline.ucRefs τ sig \ Pipeline.arrRefs spec0

theorem others_eq (c : Dev nD) : ∀ b ∈ others' \ ∅, V2 m (outs m) c b = V1 m c b := fun b hb => by
  refine Function.update_of_ne (fun e => ?_) ..
  rw [Finset.sdiff_empty] at hb
  refine (Finset.mem_sdiff.mp hb).2 ?_
  rw [e]
  exact Finset.mem_map.mpr ⟨main_v18, Finset.mem_image.mpr ⟨(5 : Fin 6), Finset.mem_univ _, rfl⟩, rfl⟩

theorem enter_inv (c : Dev nD) : (iprop(Pipeline.scopedRest (Pipeline.pin (pcfgs (F := F)) adm 0).spec c ∗ (∃ r, prngReg c r)
    ∗ StableHlo.held (c.tc : Thread nD τ) ∅ (V1 m c) ∗ Xk (Sb m) c) : sProp 𝕄) ⊢ (pdats m 0 c).Φ 0 := by
  rw [show (pdats m 0 c).Φ 0 = inv0 m c from rfl, show (Pipeline.scopedRest (Pipeline.pin (pcfgs (F := F)) adm 0).spec c : sProp 𝕄) = scr c from scopedRest0_eq c]
  unfold inv0
  iintro ⟨Hs, Hp, -, HX⟩
  isplitl [HX]; · iexact HX
  isplitl [Hs] <;> iassumption

theorem leave_inv (c : Dev nD) : (pdats m 0 c).Φ (Fin.last (Pipeline.pin (pcfgs (F := F)) adm 0).N) ⊢ (iprop(Pipeline.scopedRest (Pipeline.pin (pcfgs (F := F)) adm 0).spec c
    ∗ (∃ r, prngReg c r) ∗ StableHlo.held (c.tc : Thread nD τ) ∅ (V2 m (outs m) c) ∗ Pipeline.ownSems0 osem c ∗ semVal (barC c) 0) : sProp 𝕄) := by
  rw [show (pdats m 0 c).Φ (Fin.last (Pipeline.pin (pcfgs (F := F)) adm 0).N) = inv1 c from rfl,
    show (Pipeline.scopedRest (Pipeline.pin (pcfgs (F := F)) adm 0).spec c : sProp 𝕄) = scr c from scopedRest0_eq c]
  unfold inv1 StableHlo.held
  rw [bigSep_empty]
  iintro ⟨Hb, Ho, Hs, Hp⟩
  isplitl [Hs]; · iexact Hs
  isplitl [Hp]; · iexact Hp
  isplitr; · iempintro
  isplitl [Ho] <;> iassumption

theorem owed_cut (c : Dev nD) (t : Fin ((Pipeline.pin (pcfgs (F := F)) adm 0).N + 1)) (g : GSem nD τ sig) (i : Unit) (h : 0 < (pdats m 0 c).owed t g i) :
    i ∈ L g ∧ 0 < lv g i := by
  match t with
  | ⟨0, _⟩ => exact O₀_pos h
  | ⟨_ + 1, _⟩ => exact absurd h (Nat.lt_irrefl 0)

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem osem_facts ∅ others' (Finset.empty_subset _) launch0.toP rfl
    (fun c => (body_obligation m c).loose) (fun _ => 0) O₀ (fun c => (zero_add (O₀ c)).symm) (fun _ => rfl) (fun _ => rfl)
    (fun c w => (dat0 m c).share_full (fun _ => rfl) w) (V1 m) (V2 m (outs m)) (others_eq m) (Tk (Sb m)) (fun c => semVal (barC c) 0) (Xk (Sb m)) (fun c => semVal (barC c) 0)
    (fun c => enter (Sb m) c) (enter_inv m) (leave_inv m) (fun c => by iintro H; imodintro; iexact H) (fun _ => 0)
    ⟨fun c w s => by rw [L_tc]; exact Finset.mem_singleton_self _, fun c w s => by fin_cases w <;> fin_cases s <;> exact Nat.le_refl 0, fun c t g i h => owed_cut m c t g i h⟩
    (fun _ => iprop(emp)) (fun c w => arrAt_first m c w) (fun c w => arrAt_last m c w)

theorem reg_in (c : Dev nD) : iprop(StableHlo.held (c : Thread nD τ) (Pipeline.ucRefs τ sig) (V1 m c) ∗ E (Sb m) 0 c) ⊢ (reg m).pre c := by
  rw [StableHlo.held_sub_split (c : Thread nD τ) (Pipeline.arrRefs_sub_ucRefs spec0 (by decide)) (V1 m c)]
  show _ ⊢ iprop(StableHlo.held (c.tc : Thread nD τ) (Pipeline.arrRefs spec0) (V1 m c) ∗ (∃ r, prngReg c r)
    ∗ (StableHlo.held (c.tc : Thread nD τ) others' (V1 m c) ∗ emp) ∗ Tk (Sb m) c ∗ ∃ Wd, owes (c : Thread nD τ) (0 + O₀ c) Wd)
  rw [show (E (Sb m) 0 c : sProp 𝕄) = iprop(Tk (Sb m) c ∗ (∃ r, prngReg c r) ∗ ∃ W, owes (c : Thread nD τ) (O₀ c) W) from rfl, zero_add]
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem reg_out (c : Dev nD) : (reg m).post c ⊢ iprop(StableHlo.held (c : Thread nD τ) (Pipeline.ucRefs τ sig) (V2 m (outs m) c) ∗ E (Sb m) 1 c) := by
  rw [StableHlo.held_sub_split (c : Thread nD τ) (Pipeline.arrRefs_sub_ucRefs spec0 (by decide)) (V2 m (outs m) c)]
  show iprop(StableHlo.held (c.tc : Thread nD τ) (Pipeline.arrRefs spec0) (V2 m (outs m) c) ∗ (∃ r, prngReg c r)
    ∗ (StableHlo.held (c.tc : Thread nD τ) others' (V2 m (outs m) c) ∗ emp) ∗ semVal (barC c) 0 ∗ ∃ Wd, owes (c : Thread nD τ) 0 Wd) ⊢ _
  rw [show (E (Sb m) 1 c : sProp 𝕄) = iprop(semVal (barC c) 0 ∗ ∃ W, owes (c : Thread nD τ) 0 W) from rfl]
  iintro ⟨Ha, -, ⟨Hr, -⟩, Hb, HO⟩
  isplitl [Ha Hr]
  · isplitl [Ha] <;> iassumption
  isplitl [Hb] <;> iassumption

/-! ## The whole run -/

/-- What each device's result buffer ends with. -/
def out (c : Dev nD) : Buf (Elt F) ((c.tc : Thread nD τ).loc main_v19) := V3 m (outs m) c main_v19

set_option backward.isDefEq.respectTransparency.types false in
/-- Every run of the program ends with each argument as launched, with the result named by `out` and with every counter at zero. -/
theorem run_main : θ_run defs (onTc (τ := τ) (main (F := F))) ⟨m, fun _ => 0, ρ⟩ (fun r => (∀ c : Dev nD,
      r.2.mem ((c.tc : Thread nD τ).loc main_v19) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  refine Pipeline.θ_run_regions_kit_dev_sems (pcfgs (F := F)) adm (pdats m) () cellOf_inj EP defs₀ 𝒱₀ L lv m ρ main
    (segs m (outs m) 𝒱₀ L lv (E (Sb m)) () (pdats m) (reg m))
    (fun c Q => by
      rewrite [main_chain c, Seg.run_eq_chain,
        show (segs m (outs m) 𝒱₀ L lv (E (Sb m)) () (pdats m) (reg m) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide) O₀ L_of_ne (G (F := F)) (u₀ (F := F)) ?_
    (T₀ := fun c => iprop(StableHlo.held (c : Thread nD τ) (Pipeline.ucRefs τ sig) (V0 m c) ∗ E (Sb m) 0 c))
    (Tₙ := fun c => iprop(StableHlo.held (c : Thread nD τ) (Pipeline.ucRefs τ sig) (V3 m (outs m) c) ∗ semVal (barC c) 0))
    (hch := fun c => ⟨.rfl, reg_in m c, reg_out m c, ?_⟩)
    (hinit := ?_)
    (QY := fun c s => (s.mem ((c.tc : Thread nD τ).loc main_v19) = out m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)) ∧ s.sem (barC c) = 0)
    (hfin := fun c s' => ?_) (hQ := ?_)
  · unfold u₀ G
    iintro Hu
    ihave H := (ownU_pair _ _) $$ Hu
    icases H with ⟨HP, HX⟩
    imodintro
    isplitl [HP]; · iexact HP
    rw [bigSep_atDev]; iexact HX
  · show iprop(StableHlo.held (c : Thread nD τ) (Pipeline.ucRefs τ sig) (V3 m (outs m) c) ∗ semVal (barC c) 0 ∗ ∃ W, owes (c : Thread nD τ) 0 W) ⊢ _
    iintro ⟨Hh, Hb, HO⟩
    isplitl [Hh Hb]
    · isplitl [Hh] <;> iassumption
    iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c)) : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (deal (Sb m) ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨⟨h (Proc.devRef .tc main_v19) (Finset.mem_filter.mpr ⟨StableHlo.devRef_mem_tcRefs main_v19, by decide⟩),
        (h (Proc.devRef .tc main_arg0) (Finset.mem_filter.mpr ⟨StableHlo.devRef_mem_tcRefs main_arg0, by decide⟩)).trans (V3_main_arg0 m (outs m) c),
        (h (Proc.devRef .tc main_arg1) (Finset.mem_filter.mpr ⟨StableHlo.devRef_mem_tcRefs main_arg1, by decide⟩)).trans (V3_main_arg1 m (outs m) c),
        (h (Proc.devRef .tc main_arg2) (Finset.mem_filter.mpr ⟨StableHlo.devRef_mem_tcRefs main_arg2, by decide⟩)).trans (V3_main_arg2 m (outs m) c),
        (h (Proc.devRef .tc main_arg3) (Finset.mem_filter.mpr ⟨StableHlo.devRef_mem_tcRefs main_arg3, by decide⟩)).trans (V3_main_arg3 m (outs m) c),
        (h (Proc.devRef .tc main_arg4) (Finset.mem_filter.mpr ⟨StableHlo.devRef_mem_tcRefs main_arg4, by decide⟩)).trans (V3_main_arg4 m (outs m) c)⟩,
        by simpa using hb⟩
    · iexact HSI
  · intro s hq hs
    exact ⟨fun c => (hq c).1, sem_eq_zero hs fun c sm hsm => by obtain rfl := unscoped_eq sm hsm; exact (hq c).2⟩

end Cert.KernelIdeal.A2A
end
-- ==== Proof.Attn.lean ====
/- The partial product's two halves as one function of the rows' queries, the keys and the values: the body's text, regrouped. -/
module

public import proofs.«01_k».proof.Proof.Body

@[expose] public section

noncomputable section

namespace Cert.KernelIdeal.A2A

open Idealize.ShloMosaic Idealize.ShloMosaic.TcCoe Cert.KernelIdeal Cert.KernelIdeal.Gen

variable {F : FTy → Type} [FloatOps F]

/-- Four copies of a group's keys down a block diagonal, zeros elsewhere. -/
def quadK (k : FVec F S64x128 .bf16) : FVec F S256x512 .bf16 :=
  let z := k0_pay3 (F := F)
  concatenate S256x512 0 [
    ⟨S64x512, concatenate S64x512 1 [⟨S64x128, k⟩, ⟨S64x128, z⟩, ⟨S64x128, z⟩, ⟨S64x128, z⟩] concatenates_S64x128_S64x128_S64x128_S64x128_S64x512_d1⟩,
    ⟨S64x512, concatenate S64x512 1 [⟨S64x128, z⟩, ⟨S64x128, k⟩, ⟨S64x128, z⟩, ⟨S64x128, z⟩] concatenates_S64x128_S64x128_S64x128_S64x128_S64x512_d1⟩,
    ⟨S64x512, concatenate S64x512 1 [⟨S64x128, z⟩, ⟨S64x128, z⟩, ⟨S64x128, k⟩, ⟨S64x128, z⟩] concatenates_S64x128_S64x128_S64x128_S64x128_S64x512_d1⟩,
    ⟨S64x512, concatenate S64x512 1 [⟨S64x128, z⟩, ⟨S64x128, z⟩, ⟨S64x128, z⟩, ⟨S64x128, k⟩] concatenates_S64x128_S64x128_S64x128_S64x128_S64x512_d1⟩]
    concatenates_S64x512_S64x512_S64x512_S64x512_S256x512_d0
/-- The same of a group's values. -/
def quadV (v : FVec F S128x64 .bf16) : FVec F S512x256 .bf16 :=
  let z := k0_pay4 (F := F)
  concatenate S512x256 0 [
    ⟨S128x256, concatenate S128x256 1 [⟨S128x64, v⟩, ⟨S128x64, z⟩, ⟨S128x64, z⟩, ⟨S128x64, z⟩] concatenates_S128x64_S128x64_S128x64_S128x64_S128x256_d1⟩,
    ⟨S128x256, concatenate S128x256 1 [⟨S128x64, z⟩, ⟨S128x64, v⟩, ⟨S128x64, z⟩, ⟨S128x64, z⟩] concatenates_S128x64_S128x64_S128x64_S128x64_S128x256_d1⟩,
    ⟨S128x256, concatenate S128x256 1 [⟨S128x64, z⟩, ⟨S128x64, z⟩, ⟨S128x64, v⟩, ⟨S128x64, z⟩] concatenates_S128x64_S128x64_S128x64_S128x64_S128x256_d1⟩,
    ⟨S128x256, concatenate S128x256 1 [⟨S128x64, z⟩, ⟨S128x64, z⟩, ⟨S128x64, z⟩, ⟨S128x64, v⟩] concatenates_S128x64_S128x64_S128x64_S128x64_S128x256_d1⟩]
    concatenates_S128x256_S128x256_S128x256_S128x256_S512x256_d0
/-- The scores of a group's four heads, side by side. -/
def scores (q : FVec F S128x256 .bf16) (k : FVec F S64x128 .bf16) : FVec F S128x512 .f32 :=
  mulf (matmul dot_S128x256_S256x512_S128x512_1_0_0_1_n_n none q (quadK k) (constant S128x512 .f32 0x00000000#32))
    (broadcast S128x512 (Scalar.ofBits .f32 0x3E000000#32 : F .f32))
/-- One over the sum of a head's exponentials, along the head's columns. -/
def recips (p : FVec F S128x128 .f32) : FVec F S128x64 .f32 :=
  broadcastTo S128x64 (shapeCast S128x1 (divf (broadcast S128x1 (Scalar.ofBits .f32 0x3F800000#32 : F .f32))
    (shapeCast S128x1 (multiReduction .add [1] S128 p 0x00000000#32 reduces_S128x128_S128 (.inl rfl) rfl) shapeCasts_S128_S128x1))
    shapeCasts_S128x1_S128x1) broadcasts_S128x1_S128x64
/-- A group's attention from its four heads' exponentials. -/
def mix (p0 p1 p2 p3 : FVec F S128x128 .f32) (v : FVec F S128x64 .bf16) : FVec F S128x256 .f32 :=
  mulf (matmul dot_S128x512_S512x256_S128x256_1_0_0_1_n_n none
      (concatenate S128x512 1 [⟨S128x128, truncf .bf16 p0 bitsLt_bf16_f32⟩, ⟨S128x128, truncf .bf16 p1 bitsLt_bf16_f32⟩,
        ⟨S128x128, truncf .bf16 p2 bitsLt_bf16_f32⟩, ⟨S128x128, truncf .bf16 p3 bitsLt_bf16_f32⟩] concatenates_S128x128_S128x128_S128x128_S128x128_S128x512_d1)
      (quadV v) (constant S128x256 .f32 0x00000000#32))
    (concatenate S128x256 1 [⟨S128x64, recips p0⟩, ⟨S128x64, recips p1⟩, ⟨S128x64, recips p2⟩, ⟨S128x64, recips p3⟩]
      concatenates_S128x64_S128x64_S128x64_S128x64_S128x256_d1)
/-- A group's attention. -/
def group (q : FVec F S128x256 .bf16) (k : Vec F S1x1x64x128 .f32) (v : Vec F S1x1x128x64 .f32) : FVec F S128x256 .f32 :=
  let s := scores q (truncf .bf16 (shapeCast S64x128 k shapeCasts_S1x1x64x128_S64x128) bitsLt_bf16_f32)
  mix (exp (extractStridedSlice S128x128 ![0, 0] s slices_S128x512_o0_0_S128x128)) (exp (extractStridedSlice S128x128 ![0, 128] s slices_S128x512_o0_128_S128x128))
    (exp (extractStridedSlice S128x128 ![0, 256] s slices_S128x512_o0_256_S128x128)) (exp (extractStridedSlice S128x128 ![0, 384] s slices_S128x512_o0_384_S128x128))
    (truncf .bf16 (shapeCast S128x64 v shapeCasts_S1x1x128x64_S128x64) bitsLt_bf16_f32)
/-- A batch's part of the partial product, from its queries. -/
def batch (q : FVec F S128x512 .f32) (wo : Vec F S512x512 .f32) (k0 : Vec F S1x1x64x128 .f32) (v0 : Vec F S1x1x128x64 .f32)
    (k1 : Vec F S1x1x64x128 .f32) (v1 : Vec F S1x1x128x64 .f32) : Vec F S16x8x512 .bf16 :=
  let qb := truncf .bf16 q bitsLt_bf16_f32
  let a := concatenate S128x512 1 [⟨S128x256, group (extractStridedSlice S128x256 ![0, 0] qb slices_S128x512_o0_0_S128x256) k0 v0⟩,
    ⟨S128x256, group (extractStridedSlice S128x256 ![0, 256] qb slices_S128x512_o0_256_S128x256) k1 v1⟩] concatenates_S128x256_S128x256_S128x512_d1
  shapeCast S16x8x512 (shapeCast S16x8x512 (truncf .bf16 (matmul dot_S128x512_S512x512_S128x512_1_0_0_1_n_n none (truncf .bf16 a bitsLt_bf16_f32)
    (k0_pay1 wo) (constant S128x512 .f32 0x00000000#32)) bitsLt_bf16_f32) shapeCasts_S128x512_S16x8x512) shapeCasts_S16x8x512_S16x8x512

theorem half0_eq (x : Vec F S256x512 .f32) (wq wo : Vec F S512x512 .f32) (k0 : Vec F S1x1x64x128 .f32) (v0 : Vec F S1x1x128x64 .f32)
    (k1 : Vec F S1x1x64x128 .f32) (v1 : Vec F S1x1x128x64 .f32) :
    half0 x wq wo k0 v0 k1 v1 = batch (extractStridedSlice S128x512 ![0, 0] (k0_pay2 x wq) slices_S256x512_o0_0_S128x512) wo k0 v0 k1 v1 := rfl
theorem half1_eq (x : Vec F S256x512 .f32) (wq wo : Vec F S512x512 .f32) (k0 : Vec F S1x1x64x128 .f32) (v0 : Vec F S1x1x128x64 .f32)
    (k1 : Vec F S1x1x64x128 .f32) (v1 : Vec F S1x1x128x64 .f32) :
    half1 x wq wo k0 v0 k1 v1 = batch (extractStridedSlice S128x512 ![128, 0] (k0_pay2 x wq) slices_S256x512_o128_0_S128x512) wo k0 v0 k1 v1 := rfl

end Cert.KernelIdeal.A2A

end
-- ==== Proof.Read.lean ====
/- The regrouped halves read at an index, over the extended reals. -/
module

public import proofs.«01_k».proof.Proof.Attn
public import Idealize.ShloMosaic.Lib.Pointwise
public import Idealize.ShloMosaic.PureOps.Ideal
public import Idealize.ShloMosaic.PureOps.Ideal.Laws
public import Idealize.ShloMosaic.Lib.Pipeline.Value

@[expose] public section

noncomputable section

namespace Cert.KernelIdeal.A2A

open Idealize.ShloMosaic Idealize.ShloMosaic.TcCoe Cert.KernelIdeal Cert.KernelIdeal.Gen
open scoped BigOperators

/-! ## Four equal pieces side by side, and one above the other -/

/-- Place `j` of piece `a`. -/
def at4 {n : Nat} (N : Nat) (h : 4 * n = N) (a : Fin 4) (j : Fin n) : Fin N := ⟨a.val * n + j.val, by
  have ha := a.isLt; have hj := j.isLt; subst h
  calc a.val * n + j.val < a.val * n + n := by omega
    _ = (a.val + 1) * n := by rw [Nat.add_mul, Nat.one_mul]
    _ ≤ 4 * n := Nat.mul_le_mul_right _ (by omega)⟩

theorem at4_div {n N : Nat} (h : 4 * n = N) (a : Fin 4) (j : Fin n) : (at4 N h a j).val / n = a.val := by
  have hj := j.isLt
  show (a.val * n + j.val) / n = a.val
  rw [Nat.add_comm, Nat.add_mul_div_right _ _ (by omega), Nat.div_eq_of_lt hj, Nat.zero_add]
theorem at4_mod {n N : Nat} (h : 4 * n = N) (a : Fin 4) (j : Fin n) : (at4 N h a j).val % n = j.val := by
  have hj := j.isLt
  show (a.val * n + j.val) % n = j.val
  rw [Nat.add_comm, Nat.add_mul_mod_self_right, Nat.mod_eq_of_lt hj]

theorem sum_at4 {M : Type*} [AddCommMonoid M] {n N : Nat} (h : 4 * n = N) (f : Fin N → M) : ∑ k : Fin N, f k = ∑ a : Fin 4, ∑ j : Fin n, f (at4 N h a j) :=
  Fin.sum_univ_tiles 4 n h f

variable {α : Type}

theorem beside4 {m n N : Nat} (h4 : 4 * n = N) (x0 x1 x2 x3 : (⟨2, ![m, n]⟩ : Shape).Idx → α)
    (h : Shape.Concatenates [(⟨2, ![m, n]⟩ : Shape), ⟨2, ![m, n]⟩, ⟨2, ![m, n]⟩, ⟨2, ![m, n]⟩] ⟨2, ![m, N]⟩ 1) (i : Fin m) (a : Fin 4) (j : Fin n) :
    concatenate (⟨2, ![m, N]⟩ : Shape) 1 [⟨⟨2, ![m, n]⟩, x0⟩, ⟨⟨2, ![m, n]⟩, x1⟩, ⟨⟨2, ![m, n]⟩, x2⟩, ⟨⟨2, ![m, n]⟩, x3⟩] h (ix2 i (at4 N h4 a j))
      = (![x0, x1, x2, x3] : Fin 4 → (⟨2, ![m, n]⟩ : Shape).Idx → α) a (ix2 i j) :=
  concatenate_ofFn_apply (t := ⟨2, ![m, N]⟩) (s₁ := ⟨2, ![m, n]⟩) 1 (![x0, x1, x2, x3] : Fin 4 → (⟨2, ![m, n]⟩ : Shape).Idx → α) h rfl n rfl
    (ix2 i (at4 N h4 a j)) a (at4_div h4 a j) (ix2 i j) (at4_mod h4 a j).symm
    (fun b hb => by match b with | ⟨0, _⟩ => rfl | ⟨1, _⟩ => exact absurd rfl hb)

theorem above4 {m n N : Nat} (h4 : 4 * n = N) (x0 x1 x2 x3 : (⟨2, ![n, m]⟩ : Shape).Idx → α)
    (h : Shape.Concatenates [(⟨2, ![n, m]⟩ : Shape), ⟨2, ![n, m]⟩, ⟨2, ![n, m]⟩, ⟨2, ![n, m]⟩] ⟨2, ![N, m]⟩ 0) (a : Fin 4) (j : Fin n) (i : Fin m) :
    concatenate (⟨2, ![N, m]⟩ : Shape) 0 [⟨⟨2, ![n, m]⟩, x0⟩, ⟨⟨2, ![n, m]⟩, x1⟩, ⟨⟨2, ![n, m]⟩, x2⟩, ⟨⟨2, ![n, m]⟩, x3⟩] h (ix2 (at4 N h4 a j) i)
      = (![x0, x1, x2, x3] : Fin 4 → (⟨2, ![n, m]⟩ : Shape).Idx → α) a (ix2 j i) :=
  concatenate_ofFn_apply (t := ⟨2, ![N, m]⟩) (s₁ := ⟨2, ![n, m]⟩) 0 (![x0, x1, x2, x3] : Fin 4 → (⟨2, ![n, m]⟩ : Shape).Idx → α) h rfl n rfl
    (ix2 (at4 N h4 a j) i) a (at4_div h4 a j) (ix2 j i) (at4_mod h4 a j).symm
    (fun b hb => by match b with | ⟨1, _⟩ => rfl | ⟨0, _⟩ => exact absurd rfl hb)

theorem quadK_at (k : FVec Ideal S64x128 .bf16) (a b : Fin 4) (d : Fin 64) (j : Fin 128) :
    quadK k (ix2 (at4 256 rfl a d) (at4 512 rfl b j)) = if a = b then k (ix2 d j) else (0 : EReal) := by
  have hz : ∀ i, k0_pay3 (F := Ideal) i = (0 : EReal) := fun i => by pointwise [k0_pay3]
  refine (above4 (n := 64) (m := 512) (N := 256) rfl _ _ _ _ concatenates_S64x512_S64x512_S64x512_S64x512_S256x512_d0 a d (at4 512 rfl b j)).trans ?_
  fin_cases a <;> refine (beside4 (n := 128) (m := 64) (N := 512) rfl _ _ _ _ concatenates_S64x128_S64x128_S64x128_S64x128_S64x512_d1 d b j).trans ?_ <;> fin_cases b <;>
    first | rfl | exact hz (ix2 d j)
theorem quadV_at (v : FVec Ideal S128x64 .bf16) (a b : Fin 4) (j : Fin 128) (d : Fin 64) :
    quadV v (ix2 (at4 512 rfl a j) (at4 256 rfl b d)) = if a = b then v (ix2 j d) else (0 : EReal) := by
  have hz : ∀ i, k0_pay4 (F := Ideal) i = (0 : EReal) := fun i => by pointwise [k0_pay4]
  refine (above4 (n := 128) (m := 256) (N := 512) rfl _ _ _ _ concatenates_S128x256_S128x256_S128x256_S128x256_S512x256_d0 a j (at4 256 rfl b d)).trans ?_
  fin_cases a <;> refine (beside4 (n := 64) (m := 128) (N := 256) rfl _ _ _ _ concatenates_S128x64_S128x64_S128x64_S128x64_S128x256_d1 j b d).trans ?_ <;> fin_cases b <;>
    first | rfl | exact hz (ix2 j d)

/-! ## A group's attention -/

/-- A sum over four pieces of which all but one vanish. -/
theorem sum_pick (N n : Nat) (h : 4 * n = N) (a : Fin 4) (f : Fin N → EReal) (g : Fin n → EReal)
    (hs : ∀ j, f (at4 N h a j) = g j) (hz : ∀ b j, b ≠ a → f (at4 N h b j) = 0) : ∑ k, f k = ∑ j, g j := by
  rw [sum_at4 h, Finset.sum_eq_single a (fun b _ hb => Finset.sum_eq_zero fun j _ => hz b j hb) (fun h => absurd (Finset.mem_univ a) h)]
  exact Finset.sum_congr rfl fun j _ => hs j

theorem scores_at (q : FVec Ideal S128x256 .bf16) (k : FVec Ideal S64x128 .bf16) (i : Fin 128) (a : Fin 4) (j : Fin 128) :
    scores q k (ix2 i (at4 512 rfl a j)) = (∑ d : Fin 64, q (ix2 i (at4 256 rfl a d)) * k (ix2 d j) : EReal) * Ideal.ofBits .f32 0x3E000000#32 := by
  have e : scores q k (ix2 i (at4 512 rfl a j))
      = (∑ d : Fin 256, q (ix2 i d) * quadK k (ix2 d (at4 512 rfl a j)) : EReal) * Ideal.ofBits .f32 0x3E000000#32 := by
    pointwise [scores]
  rw [e]
  refine congrArg (· * _) (sum_pick 256 64 rfl a _ _ (fun d => ?_) (fun b d hb => ?_))
  · rw [quadK_at, if_pos rfl]
  · rw [quadK_at, if_neg hb, mul_zero]

theorem recips_at (p : FVec Ideal S128x128 .f32) (i : Fin 128) (j : Fin 64) :
    recips p (ix2 i j) = Ideal.div 1 (∑ j : Fin 128, p (ix2 i j) : EReal) := by
  pointwise [recips]

theorem weighted_at (P : FVec Ideal S128x512 .bf16) (W : FVec Ideal S512x256 .bf16) (R : FVec Ideal S128x256 .f32) (i : Fin 128) (n : Fin 256) :
    mulf (matmul dot_S128x512_S512x256_S128x256_1_0_0_1_n_n none P W (constant S128x256 .f32 0x00000000#32)) R (ix2 i n)
      = (∑ k : Fin 512, P (ix2 i k) * W (ix2 k n) : EReal) * R (ix2 i n) := by
  pointwise

theorem mix_at (p : Fin 4 → FVec Ideal S128x128 .f32) (v : FVec Ideal S128x64 .bf16) (i : Fin 128) (a : Fin 4) (d : Fin 64) :
    mix (p 0) (p 1) (p 2) (p 3) v (ix2 i (at4 256 rfl a d))
      = (∑ j : Fin 128, p a (ix2 i j) * v (ix2 j d) : EReal) * Ideal.div 1 (∑ j : Fin 128, p a (ix2 i j) : EReal) := by
  refine (weighted_at _ _ _ i (at4 256 rfl a d)).trans ?_
  refine congr (congrArg HMul.hMul (sum_pick 512 128 rfl a _ _ (fun j => ?_) (fun b j hb => ?_))) ?_
  · rw [quadV_at, if_pos rfl]
    refine congrArg (· * _) ((beside4 (n := 128) (m := 128) (N := 512) rfl _ _ _ _ concatenates_S128x128_S128x128_S128x128_S128x128_S128x512_d1 i a j).trans ?_)
    fin_cases a <;> rfl
  · rw [quadV_at, if_neg hb, mul_zero]
  · refine (beside4 (n := 64) (m := 128) (N := 256) rfl _ _ _ _ concatenates_S128x64_S128x64_S128x64_S128x64_S128x256_d1 i a d).trans ?_
    rw [← recips_at (p a) i d]
    fin_cases a <;> rfl

/-- The scores of one query row with a group's keys. -/
def score (q : Fin 64 → EReal) (K : Fin 128 → Fin 64 → EReal) (j : Fin 128) : EReal :=
  (∑ d : Fin 64, q d * K j d) * Ideal.ofBits .f32 0x3E000000#32
/-- The softmax-weighted mean of the values, without a subtracted maximum: the kernel's form. -/
def soft (s v : Fin 128 → EReal) : EReal :=
  (∑ j : Fin 128, Ideal.exp (s j) * v j) * Ideal.div 1 (∑ j : Fin 128, Ideal.exp (s j))

theorem head_at (s : FVec Ideal S128x512 .f32) (a : Fin 4) (off : Nat) (ho : off = a.val * 128) (h : S128x512.Slices ![0, off] S128x128) (i j : Fin 128) :
    exp (extractStridedSlice S128x128 ![0, off] s h) (ix2 i j) = Ideal.exp (s (ix2 i (at4 512 rfl a j))) := by
  subst ho
  show Ideal.exp (extractStridedSlice S128x128 ![0, a.val * 128] s h (ix2 i j)) = _
  refine congrArg Ideal.exp (extractStridedSlice_apply _ _ h (ix2 i j) _ ?_)
  intro b
  match b with
  | ⟨0, _⟩ => exact (Nat.zero_add _).symm
  | ⟨1, _⟩ => rfl

/-- The four heads' exponentials. -/
def heads (S : FVec Ideal S128x512 .f32) : Fin 4 → FVec Ideal S128x128 .f32 :=
  ![exp (extractStridedSlice S128x128 ![0, 0] S slices_S128x512_o0_0_S128x128), exp (extractStridedSlice S128x128 ![0, 128] S slices_S128x512_o0_128_S128x128),
    exp (extractStridedSlice S128x128 ![0, 256] S slices_S128x512_o0_256_S128x128), exp (extractStridedSlice S128x128 ![0, 384] S slices_S128x512_o0_384_S128x128)]

theorem heads_at (S : FVec Ideal S128x512 .f32) (a : Fin 4) (i j : Fin 128) : heads S a (ix2 i j) = Ideal.exp (S (ix2 i (at4 512 rfl a j))) := by
  match a with
  | 0 => exact head_at S 0 0 rfl _ i j
  | 1 => exact head_at S 1 128 rfl _ i j
  | 2 => exact head_at S 2 256 rfl _ i j
  | 3 => exact head_at S 3 384 rfl _ i j

theorem group_eq (q : FVec Ideal S128x256 .bf16) (k : Vec Ideal S1x1x64x128 .f32) (v : Vec Ideal S1x1x128x64 .f32) :
    group q k v = mix (heads (scores q (truncf .bf16 (shapeCast S64x128 k shapeCasts_S1x1x64x128_S64x128) bitsLt_bf16_f32)) 0)
      (heads (scores q (truncf .bf16 (shapeCast S64x128 k shapeCasts_S1x1x64x128_S64x128) bitsLt_bf16_f32)) 1)
      (heads (scores q (truncf .bf16 (shapeCast S64x128 k shapeCasts_S1x1x64x128_S64x128) bitsLt_bf16_f32)) 2)
      (heads (scores q (truncf .bf16 (shapeCast S64x128 k shapeCasts_S1x1x64x128_S64x128) bitsLt_bf16_f32)) 3)
      (truncf .bf16 (shapeCast S128x64 v shapeCasts_S1x1x128x64_S128x64) bitsLt_bf16_f32) := rfl

theorem group_at (q : FVec Ideal S128x256 .bf16) (k : Vec Ideal S1x1x64x128 .f32) (v : Vec Ideal S1x1x128x64 .f32) (i : Fin 128) (a : Fin 4) (d : Fin 64) :
    group q k v (ix2 i (at4 256 rfl a d))
      = soft (score (fun d => q (ix2 i (at4 256 rfl a d))) fun j d => k (ix4 0 0 d j)) fun j => v (ix4 0 0 j d) := by
  have hk : ∀ (d : Fin 64) (j : Fin 128),
      (truncf .bf16 (shapeCast S64x128 k shapeCasts_S1x1x64x128_S64x128) bitsLt_bf16_f32 : FVec Ideal S64x128 .bf16) (ix2 d j) = k (ix4 0 0 d j) := by
    intro d j; pointwise
  have hv : ∀ (j : Fin 128) (d : Fin 64),
      (truncf .bf16 (shapeCast S128x64 v shapeCasts_S1x1x128x64_S128x64) bitsLt_bf16_f32 : FVec Ideal S128x64 .bf16) (ix2 j d) = v (ix4 0 0 j d) := by
    intro j d; pointwise
  have hs : ∀ (j : Fin 128), scores q (truncf .bf16 (shapeCast S64x128 k shapeCasts_S1x1x64x128_S64x128) bitsLt_bf16_f32) (ix2 i (at4 512 rfl a j))
      = score (fun d => q (ix2 i (at4 256 rfl a d))) (fun j d => k (ix4 0 0 d j)) j := by
    intro j
    rw [scores_at]
    exact congrArg (· * _) (Finset.sum_congr rfl fun d _ => congrArg (_ * ·) (hk d j))
  rw [group_eq]
  generalize scores q (truncf .bf16 (shapeCast S64x128 k shapeCasts_S1x1x64x128_S64x128) bitsLt_bf16_f32) = S at hs ⊢
  rw [mix_at]
  have hp : ∀ j, heads S a (ix2 i j) = Ideal.exp (score (fun d => q (ix2 i (at4 256 rfl a d))) (fun j d => k (ix4 0 0 d j)) j) := fun j =>
    (heads_at S a i j).trans (congrArg Ideal.exp (hs j))
  refine congr (congrArg HMul.hMul (Finset.sum_congr rfl fun j _ => ?_)) (congrArg (Ideal.div 1) (Finset.sum_congr rfl fun j _ => hp j))
  exact congr (congrArg HMul.hMul (hp j)) (hv j d)

/-! ## A batch's part of the partial product -/

/-- Place `r` of half `g`. -/
def at2 (g : Fin 2) (r : Fin 256) : Fin 512 := ⟨g.val * 256 + r.val, by omega⟩

theorem sum_at2 {M : Type*} [AddCommMonoid M] (f : Fin 512 → M) : ∑ k : Fin 512, f k = ∑ g : Fin 2, ∑ r : Fin 256, f (at2 g r) :=
  Fin.sum_univ_tiles 2 256 rfl f

theorem beside2 (x0 x1 : S128x256.Idx → EReal) (h : Shape.Concatenates [S128x256, S128x256] S128x512 1) (i : Fin 128) (g : Fin 2) (r : Fin 256) :
    concatenate S128x512 1 [⟨S128x256, x0⟩, ⟨S128x256, x1⟩] h (ix2 i (at2 g r)) = (![x0, x1] : Fin 2 → S128x256.Idx → EReal) g (ix2 i r) :=
  concatenate_ofFn_apply (t := S128x512) (s₁ := S128x256) 1 (![x0, x1] : Fin 2 → S128x256.Idx → EReal) h rfl 256 rfl
    (ix2 i (at2 g r)) g (by show (g.val * 256 + r.val) / 256 = g.val; omega) (ix2 i r) (by show r.val = (g.val * 256 + r.val) % 256; omega)
    (fun b hb => by match b with | ⟨0, _⟩ => rfl | ⟨1, _⟩ => exact absurd rfl hb)

/-- Row `r` of a slot's eight. -/
def row (s : Fin 16) (r : Fin 8) : Fin 128 := ⟨s.val * 8 + r.val, by omega⟩

theorem project_at (A : FVec Ideal S128x512 .bf16) (W : Vec Ideal S512x512 .f32) (s : Fin 16) (r : Fin 8) (e : Fin 512) :
    (shapeCast S16x8x512 (shapeCast S16x8x512 (truncf .bf16 (matmul dot_S128x512_S512x512_S128x512_1_0_0_1_n_n none A
      (k0_pay1 W) (constant S128x512 .f32 0x00000000#32)) bitsLt_bf16_f32) shapeCasts_S128x512_S16x8x512) shapeCasts_S16x8x512_S16x8x512
        : FVec Ideal S16x8x512 .bf16) (ix3 s r e)
      = (∑ n : Fin 512, A (ix2 (row s r) n) * W (ix2 n e) : EReal) := by
  pointwise [k0_pay1]
  rfl

theorem batch_at (q : FVec Ideal S128x512 .f32) (wo : Vec Ideal S512x512 .f32) (k : Fin 2 → Vec Ideal S1x1x64x128 .f32) (v : Fin 2 → Vec Ideal S1x1x128x64 .f32)
    (s : Fin 16) (r : Fin 8) (e : Fin 512) :
    batch q wo (k 0) (v 0) (k 1) (v 1) (ix3 s r e)
      = (∑ g : Fin 2, ∑ a : Fin 4, ∑ d : Fin 64,
          soft (score (fun d => q (ix2 (row s r) (at2 g (at4 256 rfl a d)))) fun j d => k g (ix4 0 0 d j)) (fun j => v g (ix4 0 0 j d))
            * wo (ix2 (at2 g (at4 256 rfl a d)) e) : EReal) := by
  unfold batch
  refine (project_at _ wo s r e).trans ?_
  rw [sum_at2]
  refine Finset.sum_congr rfl fun g _ => ?_
  rw [sum_at4 (n := 64) rfl]
  refine Finset.sum_congr rfl fun a _ => Finset.sum_congr rfl fun d _ => congrArg (· * _) ?_
  refine (beside2 _ _ concatenates_S128x256_S128x256_S128x512_d1 (row s r) g (at4 256 rfl a d)).trans ?_
  match g with
  | 0 =>
    refine (group_at _ (k 0) (v 0) (row s r) a d).trans ?_
    refine congrArg (soft · _) (congrArg (score · _) (funext fun d => ?_))
    exact extractStridedSlice_apply _ _ slices_S128x512_o0_0_S128x256 _ _ (fun b => by
      match b with
      | ⟨0, _⟩ => exact (Nat.zero_add _).symm
      | ⟨1, _⟩ => rfl)
  | 1 =>
    refine (group_at _ (k 1) (v 1) (row s r) a d).trans ?_
    refine congrArg (soft · _) (congrArg (score · _) (funext fun d => ?_))
    exact extractStridedSlice_apply _ _ slices_S128x512_o0_256_S128x256 _ _ (fun b => by
      match b with
      | ⟨0, _⟩ => exact (Nat.zero_add _).symm
      | ⟨1, _⟩ => rfl)

end Cert.KernelIdeal.A2A

end
-- ==== Proof.Parts.lean ====
/- What the program's result holds at an index over the extended reals: a sum over the devices of what each one's heads bring, with every
   block read back from the arguments as launched. -/
module
public import proofs.«01_k».proof.Proof.Read
public import proofs.«01_k».proof.Proof.Launch
public import Idealize.ShloMosaic.Lib.StableHlo.RunClose
public import Idealize.ShloMosaic.Lib.DynamicIndex

@[expose] public section
noncomputable section

namespace Cert.KernelIdeal.A2A
open Idealize.ShloMosaic Idealize.ShloMosaic.TcCoe Cert.KernelIdeal Cert.KernelIdeal.Gen
open scoped BigOperators

/-! ## A device's partial product -/

/-- The row of the tokens that batch `b` has at `i`, and the slot that holds batch `b`'s rows `8 s` to `8 s + 7`. -/
def tok (b : Fin 2) (i : Fin 128) : Fin 256 := ⟨b.val * 128 + i.val, by omega⟩
def slotAt (b : Fin 2) (s : Fin 16) : Fin 32 := ⟨b.val * 16 + s.val, by omega⟩

/-- Query `n` of the token in row `t`. -/
def query (x : Vec Ideal S256x512 .f32) (wq : Vec Ideal S512x512 .f32) (t : Fin 256) (n : Fin 512) : EReal := ∑ k : Fin 512, x (ix2 t k) * wq (ix2 k n)

theorem pay2_at (x : Vec Ideal S256x512 .f32) (wq : Vec Ideal S512x512 .f32) (t : Fin 256) (n : Fin 512) :
    (k0_pay2 x wq (ix2 t n) : EReal) = query x wq t n := by
  unfold query
  pointwise [k0_pay2]

theorem cut0 (q : FVec Ideal S256x512 .f32) (i : Fin 128) (n : Fin 512) :
    extractStridedSlice S128x512 ![0, 0] q slices_S256x512_o0_0_S128x512 (ix2 i n) = q (ix2 (tok 0 i) n) := by
  refine extractStridedSlice_apply _ _ _ _ _ fun a => ?_
  match a with
  | 0 => show 0 * 128 + i.val = 0 + i.val; omega
  | 1 => show n.val = 0 + n.val; omega
theorem cut1 (q : FVec Ideal S256x512 .f32) (i : Fin 128) (n : Fin 512) :
    extractStridedSlice S128x512 ![128, 0] q slices_S256x512_o128_0_S128x512 (ix2 i n) = q (ix2 (tok 1 i) n) := by
  refine extractStridedSlice_apply _ _ _ _ _ fun a => ?_
  match a with
  | 0 => show 1 * 128 + i.val = 128 + i.val; omega
  | 1 => show n.val = 0 + n.val; omega

/-- What the heads of one device bring to the token in row `i` of batch `b`. -/
def brings (x : Vec Ideal S256x512 .f32) (wq wo : Vec Ideal S512x512 .f32) (kt : Vec Ideal S2x2x64x128 .f32) (vt : Vec Ideal S2x2x128x64 .f32)
    (b : Fin 2) (i : Fin 128) (e : Fin 512) : EReal :=
  ∑ g : Fin 2, ∑ a : Fin 4, ∑ d : Fin 64,
    soft (score (fun d => query x wq (tok b i) (at2 g (at4 256 rfl a d))) fun j d => kt (ix4 b g d j)) (fun j => vt (ix4 b g j d))
      * wo (ix2 (at2 g (at4 256 rfl a d)) e)

theorem part_at (x : Vec Ideal S256x512 .f32) (wq wo : Vec Ideal S512x512 .f32) (kt : Vec Ideal S2x2x64x128 .f32) (vt : Vec Ideal S2x2x128x64 .f32)
    (b : Fin 2) (s : Fin 16) (r : Fin 8) (e : Fin 512) :
    (part x wq wo kt vt (ix3 (slotAt b s) r e) : EReal) = brings x wq wo kt vt b (row s r) e := by
  have hk (b g : Fin 2) (d : Fin 64) (j : Fin 128) : keyBlk kt b g (ix4 0 0 d j) = kt (ix4 b g d j) := by rw [ix4_eq_valueIdx, ix4_eq_valueIdx]; rfl
  have hv (b g : Fin 2) (j : Fin 128) (d : Fin 64) : valBlk vt b g (ix4 0 0 j d) = vt (ix4 b g j d) := by rw [ix4_eq_valueIdx, ix4_eq_valueIdx]; rfl
  match b with
  | 0 =>
    refine (dif_pos (show ((ix3 (slotAt 0 s) r e) 0).val < 16 by show 0 * 16 + s.val < 16; omega)).trans ?_
    rw [half0_eq]
    refine Eq.trans (congrArg _ ?_) ((batch_at _ wo (keyBlk kt 0) (valBlk vt 0) s r e).trans ?_)
    · refine funext fun a => ?_
      match a with
      | 0 => exact Fin.ext (by show 0 * 16 + s.val = s.val; omega)
      | 1 => rfl
      | 2 => rfl
    · simp only [cut0, pay2_at, hk, hv]
      rfl
  | 1 =>
    refine (dif_neg (show ¬((ix3 (slotAt 1 s) r e) 0).val < 16 by show ¬(1 * 16 + s.val < 16); omega)).trans ?_
    rw [half1_eq]
    refine Eq.trans (congrArg _ ?_) ((batch_at _ wo (keyBlk kt 1) (valBlk vt 1) s r e).trans ?_)
    · refine funext fun a => ?_
      match a with
      | 0 => exact Fin.ext (by show 1 * 16 + s.val - 16 = s.val; omega)
      | 1 => rfl
      | 2 => rfl
    · simp only [cut1, pay2_at, hk, hv]
      rfl

/-! ## The sum over the devices -/

variable (m : (ℓ : Loc nD τ sig) → Buf (Elt Ideal) ℓ)

theorem pay55_at (f : Vec Ideal S32x8x512 .bf16) (r : Fin 8) (e : Fin 512) : (k0_pay55 f (ix3 0 r e) : EReal) = ∑ d : Fin 32, f (ix3 d r e) := by
  pointwise [k0_pay55]

theorem pay56_at (f : Vec Ideal S32x8x512 .bf16) (b : Fin 2) (s : Fin 16) (r : Fin 8) (e : Fin 512) :
    (k0_pay56 f (ix2 (tok b (row s r)) e) : EReal) = f (ix3 (slotAt b s) r e) := by
  pointwise [k0_pay56]
  refine congrArg f (funext fun a => ?_)
  match a with
  | 0 => exact Fin.ext (by show (b.val * 128 + (s.val * 8 + r.val)) / 8 = b.val * 16 + s.val; omega)
  | 1 => exact Fin.ext (by show (b.val * 128 + (s.val * 8 + r.val)) % 8 = r.val; omega)
  | 2 => rfl

theorem out_eq (c : Dev nD) : out m c = shapeCast S2x128x512 (result m) shapeCasts_S256x512_S2x128x512 := by
  refine Eq.trans ?_ (congrArg (fun f => shapeCast S2x128x512 f shapeCasts_S256x512_S2x128x512) (V2_v18 m c))
  unfold out V3
  after_results
  rfl

theorem out_at (c : Dev nD) (b : Fin 2) (s : Fin 16) (r : Fin 8) (e : Fin 512) :
    (out m c (ix3 b (row s r) e) : EReal)
      = ∑ d : Dev nD, brings (xB m d) (wqB m d) (woB m d) (ktB m d) (vtB m d) b (row s r) e := by
  have h (f : Vec Ideal S256x512 .f32) : shapeCast S2x128x512 f shapeCasts_S256x512_S2x128x512 (ix3 b (row s r) e) = f (ix2 (tok b (row s r)) e) := by
    pointwise
    rfl
  rw [out_eq, h]
  unfold result
  rw [pay56_at]
  refine Eq.trans (b := (k0_pay55 (gath (Sb m) (slotAt b s)) (ix3 0 r e) : EReal)) (by rw [ix3_eq_valueIdx, ix3_eq_valueIdx]; rfl) ?_
  rw [pay55_at]
  refine Finset.sum_congr rfl fun d _ => ?_
  refine Eq.trans ?_ (part_at (xB m d) (wqB m d) (woB m d) (ktB m d) (vtB m d) b s r e)
  rw [ix3_eq_valueIdx, ix3_eq_valueIdx]
  rfl

/-! ## The blocks -/

theorem xB_eq (c : Dev nD) : xB m c = shapeCast S256x512 (m ((c : Thread nD τ).loc main_arg0)) shapeCasts_S2x128x512_S256x512 := by
  show StableHlo.after (hostOps0 c) (V0 m c) main_v17 = _
  unfold hostOps0
  after_results_simp
  rfl

theorem rows_at (f : Vec Ideal S2x128x512 .f32) (b : Fin 2) (i : Fin 128) (k : Fin 512) :
    shapeCast S256x512 f shapeCasts_S2x128x512_S256x512 (ix2 (tok b i) k) = f (ix3 b i k) := by
  pointwise
  refine congrArg f (funext fun a => ?_)
  match a with
  | 0 => exact Fin.ext (by show (b.val * 128 + i.val) / 128 = b.val; omega)
  | 1 => exact Fin.ext (by show (b.val * 128 + i.val) % 128 = i.val; omega)
  | 2 => rfl

theorem xB_at (c : Dev nD) (b : Fin 2) (i : Fin 128) (k : Fin 512) :
    xB m c (ix2 (tok b i) k) = m ((c : Thread nD τ).loc main_arg0) (ix3 b i k) := by
  rw [xB_eq]
  exact rows_at _ b i k

theorem wqB_eq (c : Dev nD) : wqB m c = m ((c : Thread nD τ).loc main_arg1) := V1_of m c main_arg1 (by decide)
theorem woB_eq (c : Dev nD) : woB m c = m ((c : Thread nD τ).loc main_arg4) := V1_of m c main_arg4 (by decide)

/-- The group of heads that device `c` takes as its own number `g`. -/
def kvHead (c : Dev nD) (g : Fin 2) : Fin 64 := ⟨2 * c.val + g.val, by have : c.val < 32 := c.isLt; omega⟩

/-- The program's word for the first group of heads of device `c`. -/
def firstHead (c : Dev nD) : IVec S_ 32 :=
  let D : IVec S_ 32 := muli (Host.remui (Host.divui (constantI S_ 32 (Dev.word c)) (constantI S_ 32 1#32)) (constantI S_ 32 32#32)) (constantI S_ 32 2#32)
  select (cmpi .slt D (constantI S_ 32 0#32)) (addi D (constantI S_ 32 64#32)) D

theorem firstHead_val : ∀ c : Dev nD, (firstHead c (Shape.Idx.first h_S_)).toInt = ((2 * c.val : Nat) : Int) := by decide

/-- Where device `c`'s slice of the keys and of the values begins. -/
def begins (c : Dev nD) (a : Fin 4) : Int := ((![constantI S_ 32 0#32, constantI S_ 32 0#32, firstHead c, constantI S_ 32 0#32] : Fin 4 → IVec S_ 32) a (Shape.Idx.first h_S_)).toInt

theorem begins_fit (c : Dev nD) : S2x128x64x64.Slices ![0, 0, 2 * c.val, 0] S2x128x2x64 := by
  have hc : c.val < 32 := c.isLt
  exact ⟨rfl, fun a => by match a with
    | 0 => exact (by decide : 0 + 2 ≤ 2)
    | 1 => exact (by decide : 0 + 128 ≤ 128)
    | 2 => show 2 * c.val + 2 ≤ 64; omega
    | 3 => exact (by decide : 0 + 64 ≤ 64)⟩

theorem heads_slice (c : Dev nD) (f : Vec Ideal S2x128x64x64 .f32) (b : Fin 2) (j : Fin 128) (g : Fin 2) (d : Fin 64) :
    Host.dynamicSlice S2x128x2x64 f (begins c) sliceFits_S2x128x64x64_S2x128x2x64 (ix4 b j g d) = f (ix4 b j (kvHead c g) d) := by
  rw [Host.dynamicSlice_eq_extractStridedSlice _ _ _ ![0, 0, 2 * c.val, 0] _ (begins_fit c) fun a => by
    match a with
    | 0 => rfl
    | 1 => rfl
    | 2 => exact firstHead_val c
    | 3 => rfl]
  refine extractStridedSlice_apply _ _ _ _ _ fun a => ?_
  match a with
  | 0 => show b.val = 0 + b.val; omega
  | 1 => show j.val = 0 + j.val; omega
  | 2 => rfl
  | 3 => show d.val = 0 + d.val; omega

theorem ktB_eq (c : Dev nD) : ktB m c = transpose S2x2x64x128 [0, 2, 3, 1]
    (Host.dynamicSlice S2x128x2x64 (m ((c : Thread nD τ).loc main_arg2)) (begins c) sliceFits_S2x128x64x64_S2x128x2x64) transposes_S2x128x2x64_S2x2x64x128_0_2_3_1 := by
  show StableHlo.after (hostOps0 c) (V0 m c) main_v15 = _
  unfold hostOps0
  after_results_simp_entrywise
  rfl

theorem vtB_eq (c : Dev nD) : vtB m c = transpose S2x2x128x64 [0, 2, 1, 3]
    (Host.dynamicSlice S2x128x2x64 (m ((c : Thread nD τ).loc main_arg3)) (begins c) sliceFits_S2x128x64x64_S2x128x2x64) transposes_S2x128x2x64_S2x2x128x64_0_2_1_3 := by
  show StableHlo.after (hostOps0 c) (V0 m c) main_v16 = _
  unfold hostOps0
  after_results_simp_entrywise
  rfl

theorem ktB_at (c : Dev nD) (b g : Fin 2) (d : Fin 64) (j : Fin 128) :
    ktB m c (ix4 b g d j) = m ((c : Thread nD τ).loc main_arg2) (ix4 b j (kvHead c g) d) := by
  rw [ktB_eq]
  refine Eq.trans ?_ (heads_slice c _ b j g d)
  generalize Host.dynamicSlice S2x128x2x64 (m ((c : Thread nD τ).loc main_arg2)) (begins c) sliceFits_S2x128x64x64_S2x128x2x64 = f
  pointwise

theorem vtB_at (c : Dev nD) (b g : Fin 2) (j : Fin 128) (d : Fin 64) :
    vtB m c (ix4 b g j d) = m ((c : Thread nD τ).loc main_arg3) (ix4 b j (kvHead c g) d) := by
  rw [vtB_eq]
  refine Eq.trans ?_ (heads_slice c _ b j g d)
  generalize Host.dynamicSlice S2x128x2x64 (m ((c : Thread nD τ).loc main_arg3)) (begins c) sliceFits_S2x128x64x64_S2x128x2x64 = f
  pointwise

/-- What the heads of device `p` bring to token `i` of batch `b`, from the tokens, the device's blocks of the weights, the keys and the values. -/
def fromHeads (x : Vec Ideal S2x128x512 .f32) (wq : Vec Ideal S512x512 .f32) (K V : Vec Ideal S2x128x64x64 .f32) (wo : Vec Ideal S512x512 .f32)
    (p : Dev nD) (b : Fin 2) (i : Fin 128) (e : Fin 512) : EReal :=
  ∑ g : Fin 2, ∑ a : Fin 4, ∑ d : Fin 64,
    soft (score (fun d => ∑ k : Fin 512, x (ix3 b i k) * wq (ix2 k (at2 g (at4 256 rfl a d)))) fun j d => K (ix4 b j (kvHead p g) d))
        (fun j => V (ix4 b j (kvHead p g) d))
      * wo (ix2 (at2 g (at4 256 rfl a d)) e)

theorem brings_eq (x : Vec Ideal S256x512 .f32) (wq wo : Vec Ideal S512x512 .f32) (kt : Vec Ideal S2x2x64x128 .f32) (vt : Vec Ideal S2x2x128x64 .f32)
    (X : Vec Ideal S2x128x512 .f32) (K V : Vec Ideal S2x128x64x64 .f32) (p : Dev nD)
    (hx : ∀ b i k, x (ix2 (tok b i) k) = X (ix3 b i k)) (hk : ∀ b g d j, kt (ix4 b g d j) = K (ix4 b j (kvHead p g) d))
    (hv : ∀ b g j d, vt (ix4 b g j d) = V (ix4 b j (kvHead p g) d)) (b : Fin 2) (i : Fin 128) (e : Fin 512) :
    brings x wq wo kt vt b i e = fromHeads X wq K V wo p b i e := by
  unfold brings query fromHeads
  simp only [hx, hk, hv]

/-- What the program leaves in its result, in terms of the arguments as launched. -/
theorem out_args (c : Dev nD) (b : Fin 2) (s : Fin 16) (r : Fin 8) (e : Fin 512) :
    (out m c (ix3 b (row s r) e) : EReal) = ∑ p : Dev nD, fromHeads (m ((p : Thread nD τ).loc main_arg0)) (m ((p : Thread nD τ).loc main_arg1))
      (m ((p : Thread nD τ).loc main_arg2)) (m ((p : Thread nD τ).loc main_arg3)) (m ((p : Thread nD τ).loc main_arg4)) p b (row s r) e := by
  refine (out_at m c b s r e).trans (Finset.sum_congr (M := EReal) rfl fun p _ => ?_)
  rw [wqB_eq, woB_eq]
  exact brings_eq _ _ _ _ _ _ _ _ p (xB_at m p) (ktB_at m p) (vtB_at m p) b (row s r) e

end Cert.KernelIdeal.A2A
end
-- ==== Proof.Soft.lean ====
/- The softmax over the extended reals: where the scores are real numbers, subtracting their maximum from each changes nothing, whatever the
   values weighted by it are. -/
module
public import proofs.«01_k».proof.Proof.Read

@[expose] public section
noncomputable section

namespace Cert.KernelIdeal.A2A
open Idealize.ShloMosaic Idealize.ShloMosaic.TcCoe Cert.KernelIdeal Cert.KernelIdeal.Gen
open scoped BigOperators

/-- A positive real factor goes through a sum of extended reals. -/
theorem mul_sum_pos {ι : Type*} (S : Finset ι) (c : ℝ) (hc : 0 < c) (f : ι → EReal) : (c : EReal) * ∑ j ∈ S, f j = ∑ j ∈ S, (c : EReal) * f j := by
  classical
  induction S using Finset.induction_on with
  | empty => simp
  | insert a S ha ih =>
    rw [Finset.sum_insert ha, Finset.sum_insert ha, ← ih]
    exact EReal.left_distrib_of_nonneg_of_ne_top (EReal.coe_nonneg.2 hc.le) (EReal.coe_ne_top c) _ _

theorem sum_real {ι : Type*} (S : Finset ι) (f : ι → ℝ) : (∑ j ∈ S, (f j : EReal)) = ((∑ j ∈ S, f j : ℝ) : EReal) := by
  classical
  induction S using Finset.induction_on with
  | empty => simp
  | insert a S ha ih => rw [Finset.sum_insert ha, Finset.sum_insert ha, ih, EReal.coe_add]

theorem exp_real (t : ℝ) : Ideal.exp (t : EReal) = ((Real.exp t : ℝ) : EReal) := rfl

theorem sum_exp_real (t : Fin 128 → ℝ) : (∑ j : Fin 128, Ideal.exp (t j : EReal)) = ((∑ j : Fin 128, Real.exp (t j) : ℝ) : EReal) := by
  simp only [exp_real]
  exact sum_real _ _

/-- The softmax-weighted mean with `m` subtracted from every score, as one division. -/
def softSub (m : EReal) (s v : Fin 128 → EReal) : EReal :=
  Ideal.div (∑ j : Fin 128, Ideal.exp (s j - m) * v j) (∑ j : Fin 128, Ideal.exp (s j - m))

theorem soft_eq (m : ℝ) (t : Fin 128 → ℝ) (v : Fin 128 → EReal) : soft (fun j => (t j : EReal)) v = softSub (m : EReal) (fun j => (t j : EReal)) v := by
  have hsum (u : Fin 128 → ℝ) : 0 < ∑ j : Fin 128, Real.exp (u j) := Finset.sum_pos (fun j _ => Real.exp_pos _) ⟨0, Finset.mem_univ _⟩
  unfold soft softSub
  simp only [← EReal.coe_sub]
  rw [sum_exp_real t, sum_exp_real fun j => t j - m]
  have hl := hsum t
  have hl' := hsum fun j => t j - m
  have hfac (j : Fin 128) : Real.exp (t j) = Real.exp m * Real.exp (t j - m) := by rw [← Real.exp_add]; congr 1; ring
  have hL : ∑ j : Fin 128, Real.exp (t j) = Real.exp m * ∑ j : Fin 128, Real.exp (t j - m) := by
    rw [Finset.mul_sum]; exact Finset.sum_congr rfl fun j _ => hfac j
  have hN : (∑ j : Fin 128, Ideal.exp (t j : EReal) * v j) = (Real.exp m : EReal) * ∑ j : Fin 128, Ideal.exp ((t j - m : ℝ) : EReal) * v j := by
    rw [mul_sum_pos _ _ (Real.exp_pos m)]
    refine Finset.sum_congr rfl fun j _ => ?_
    rw [exp_real, exp_real, hfac j, EReal.coe_mul, mul_assoc]
  have e0 : ((∑ j : Fin 128, Real.exp (t j) : ℝ) : EReal) ≠ 0 := fun h => hl.ne' (EReal.coe_eq_zero.1 h)
  have e1 : ((∑ j : Fin 128, Real.exp (t j - m) : ℝ) : EReal) ≠ 0 := fun h => hl'.ne' (EReal.coe_eq_zero.1 h)
  rw [hN, Ideal.div, if_neg e0, Ideal.div, if_neg e1, one_mul, mul_comm (Real.exp m : EReal), mul_assoc]
  congr 1
  rw [← EReal.coe_inv, ← EReal.coe_inv, ← EReal.coe_mul, hL]
  congr 1
  have := (Real.exp_pos m).ne'
  field_simp

end Cert.KernelIdeal.A2A
end
-- ==== Proof.RefValue.lean ====
/- The reference's result read at an index over the extended reals. -/
module
public import proofs.«01_k».proof.Proof.Gen.ReferenceIdeal.Run
public import Idealize.ShloMosaic.Lib.Pointwise
public import Idealize.ShloMosaic.PureOps.Ideal
public import Idealize.ShloMosaic.PureOps.Ideal.Laws
public import Idealize.ShloMosaic.Lib.Pipeline.Value

@[expose] public section
noncomputable section

namespace Cert.ReferenceIdeal.A2A
open Idealize.ShloMosaic Idealize.ShloMosaic.TcCoe Cert.ReferenceIdeal Cert.ReferenceIdeal.Gen
open scoped BigOperators

variable (x : FVec Ideal S2x128x512 .f32) (Wq : FVec Ideal S512x16384 .f32) (K V : FVec Ideal S2x128x64x64 .f32) (Wo : FVec Ideal S16384x512 .f32)

/-- The queries by head, the keys or values repeated for every head, and the scaled scores. -/
def queries : FVec Ideal S2x128x256x64 .f32 :=
  shapeCast _ (Host.dotGeneral (F := Ideal) dot_S2x128x512_S512x16384_S2x128x16384_2_0_01_1_n_n none x Wq) shapeCasts_S2x128x16384_S2x128x256x64
def repeated : FVec Ideal S2x128x256x64 .f32 :=
  shapeCast _ (broadcastInDim S2x128x64x4x64 ![0, 1, 2, 4] bcast_S2x128x64x64_S2x128x64x4x64_0_1_2_4 K) shapeCasts_S2x128x64x4x64_S2x128x256x64
def scaled (Q K' : FVec Ideal S2x128x256x64 .f32) : FVec Ideal S2x256x128x128 .f32 :=
  mulf (F := Ideal) (Host.dotGeneral (F := Ideal) dot_S2x128x256x64_S2x128x256x64_S2x256x128x128_3_3_1_1_02_02 none Q K')
    (broadcastInDim S2x256x128x128 ![] bcast_S_S2x256x128x128 (constant (F := Ideal) S_ .f32 0x3E000000#32))
/-- Every row's largest score, and the exponentials of the scores less it. -/
def largest (s : FVec Ideal S2x256x128x128 .f32) : FVec Ideal S2x256x128 .f32 :=
  Host.reduce (FloatOps.maximumf (F := Ideal) (φ := .f32)) s (constant (F := Ideal) S_ .f32 0xFF800000#32) reducesTo_S2x256x128x128_S2x256x128_d3 h_S_
def weights (s : FVec Ideal S2x256x128x128 .f32) (M : FVec Ideal S2x256x128 .f32) : FVec Ideal S2x256x128x128 .f32 :=
  Host.exp (F := Ideal) (subf (F := Ideal) s (broadcastInDim S2x256x128x128 ![0, 1, 2, 3] bcast_S2x256x128x1_S2x256x128x128_0_1_2_3
    (broadcastInDim S2x256x128x1 ![0, 1, 2] bcast_S2x256x128_S2x256x128x1_0_1_2 M)))
def mean (P : FVec Ideal S2x256x128x128 .f32) (V' : FVec Ideal S2x128x256x64 .f32) : FVec Ideal S2x128x256x64 .f32 :=
  Host.divf (F := Ideal) (transpose S2x128x256x64 [0, 3, 1, 2] (Host.dotGeneral (F := Ideal) dot_S2x128x256x64_S2x256x128x128_S2x256x64x128_1_3_3_2_02_01 none V' P) transposes_S2x256x64x128_S2x128x256x64_0_3_1_2)
    (broadcastInDim S2x128x256x64 ![0, 1, 2, 3] bcast_S2x128x256x1_S2x128x256x64_0_1_2_3 (transpose S2x128x256x1 [0, 2, 1, 3]
      (broadcastInDim S2x256x128x1 ![0, 1, 2] bcast_S2x256x128_S2x256x128x1_0_1_2
        (Host.reduceAdd (F := Ideal) P (constant (F := Ideal) S_ .f32 0x00000000#32) reducesTo_S2x256x128x128_S2x256x128_d3 h_S_)) transposes_S2x256x128x1_S2x128x256x1_0_2_1_3))
def projected (o : FVec Ideal S2x128x256x64 .f32) : FVec Ideal S2x128x512 .f32 :=
  Host.dotGeneral (F := Ideal) dot_S2x128x16384_S16384x512_S2x128x512_2_0_01_1_n_n none (shapeCast _ o shapeCasts_S2x128x256x64_S2x128x16384) Wo
/-- The reference's result. -/
def value : FVec Ideal S2x128x512 .f32 :=
  projected Wo (mean (weights (scaled (queries x Wq) (repeated K)) (largest (scaled (queries x Wq) (repeated K)))) (repeated V))

/-- Column `d` of head `h`, and the group of a head. -/
def col (h : Fin 256) (d : Fin 64) : Fin 16384 := ⟨h.val * 64 + d.val, by omega⟩
def groupOf (h : Fin 256) : Fin 64 := ⟨h.val / 4, by omega⟩

theorem sum_col {M : Type*} [AddCommMonoid M] (f : Fin 16384 → M) : ∑ n : Fin 16384, f n = ∑ h : Fin 256, ∑ d : Fin 64, f (col h d) :=
  Fin.sum_univ_tiles 256 64 rfl f

theorem queries_at (b : Fin 2) (i : Fin 128) (h : Fin 256) (d : Fin 64) :
    (queries x Wq (ix4 b i h d) : EReal) = ∑ k : Fin 512, x (ix3 b i k) * Wq (ix2 k (col h d)) := by
  pointwise [queries]
  rfl

theorem repeated_at (b : Fin 2) (j : Fin 128) (h : Fin 256) (d : Fin 64) : repeated K (ix4 b j h d) = K (ix4 b j (groupOf h) d) := by
  pointwise [repeated]
  rfl

theorem scaled_at (Q K' : FVec Ideal S2x128x256x64 .f32) (b : Fin 2) (h : Fin 256) (i j : Fin 128) :
    (scaled Q K' (ix4 b h i j) : EReal) = (∑ d : Fin 64, Q (ix4 b i h d) * K' (ix4 b j h d)) * Ideal.ofBits .f32 0x3E000000#32 := by
  pointwise [scaled]

theorem weights_at (s : FVec Ideal S2x256x128x128 .f32) (M : FVec Ideal S2x256x128 .f32) (b : Fin 2) (h : Fin 256) (i j : Fin 128) :
    (weights s M (ix4 b h i j) : EReal) = Ideal.exp (s (ix4 b h i j) - M (ix3 b h i)) := by
  pointwise [weights]

theorem mean_at (P : FVec Ideal S2x256x128x128 .f32) (V' : FVec Ideal S2x128x256x64 .f32) (b : Fin 2) (h : Fin 256) (i : Fin 128) (d : Fin 64) :
    (mean P V' (ix4 b i h d) : EReal) = Ideal.div (∑ j : Fin 128, V' (ix4 b j h d) * P (ix4 b h i j)) (∑ j : Fin 128, P (ix4 b h i j)) := by
  pointwise [mean]

theorem projected_at (o : FVec Ideal S2x128x256x64 .f32) (b : Fin 2) (i : Fin 128) (e : Fin 512) :
    (projected Wo o (ix3 b i e) : EReal) = ∑ h : Fin 256, ∑ d : Fin 64, o (ix4 b i h d) * Wo (ix2 (col h d) e) := by
  pointwise [projected]
  rw [sum_col]
  refine Finset.sum_congr rfl fun h _ => Finset.sum_congr rfl fun d _ => congrArg (fun t => o t * Wo (ix2 (col h d) e)) (funext fun a => ?_)
  match a with
  | 0 => rfl
  | 1 => rfl
  | 2 => exact Fin.ext (by show (h.val * 64 + d.val) / 64 = h.val; omega)
  | 3 => exact Fin.ext (by show (h.val * 64 + d.val) % 64 = d.val; omega)

/-- The score of key `j` for head `h` of token `i`. -/
def scoreOf (b : Fin 2) (h : Fin 256) (i j : Fin 128) : EReal :=
  (∑ d : Fin 64, (∑ k : Fin 512, x (ix3 b i k) * Wq (ix2 k (col h d))) * K (ix4 b j (groupOf h) d)) * Ideal.ofBits .f32 0x3E000000#32

theorem scores_eq (b : Fin 2) (h : Fin 256) (i j : Fin 128) : (scaled (queries x Wq) (repeated K) (ix4 b h i j) : EReal) = scoreOf x Wq K b h i j := by
  rw [scaled_at]
  unfold scoreOf
  simp only [queries_at, repeated_at]

/-- The largest score of head `h` of token `i`. -/
def top (b : Fin 2) (h : Fin 256) (i : Fin 128) : EReal := largest (scaled (queries x Wq) (repeated K)) (ix3 b h i)

/-- The reference's result at an index. -/
theorem value_at (b : Fin 2) (i : Fin 128) (e : Fin 512) :
    (value x Wq K V Wo (ix3 b i e) : EReal) = ∑ h : Fin 256, ∑ d : Fin 64,
      Ideal.div (∑ j : Fin 128, V (ix4 b j (groupOf h) d) * Ideal.exp (scoreOf x Wq K b h i j - top x Wq K b h i))
          (∑ j : Fin 128, Ideal.exp (scoreOf x Wq K b h i j - top x Wq K b h i))
        * Wo (ix2 (col h d) e) := by
  unfold value
  refine (projected_at ..).trans (Finset.sum_congr rfl fun h _ => Finset.sum_congr rfl fun d _ => ?_)
  rw [mean_at]
  simp only [weights_at, repeated_at, scores_eq]
  rfl

end Cert.ReferenceIdeal.A2A
end
-- ==== Proof.Equal.lean ====
/- The program's result and the reference's are the same where the tokens, the query weights and the keys are real numbers. -/
module
public import proofs.«01_k».proof.Proof.Parts
public import proofs.«01_k».proof.Proof.Soft
public import proofs.«01_k».proof.Proof.RefValue
public import Idealize.ShloMosaic.Lib.Layout

@[expose] public section
noncomputable section

namespace Cert.A2A
open Idealize.ShloMosaic Idealize.ShloMosaic.TcCoe
open Cert.KernelIdeal.A2A Cert.ReferenceIdeal.A2A
open scoped BigOperators

/-! ## Real entries -/

/-- Every entry is a real number. -/
def AllReal {s : Shape} (f : FVec Ideal s .f32) : Prop := ∀ i, ∃ t : ℝ, (f i : EReal) = (t : EReal)

theorem real_mul {a b : EReal} (ha : ∃ t : ℝ, a = t) (hb : ∃ t : ℝ, b = t) : ∃ t : ℝ, a * b = t := by
  obtain ⟨u, rfl⟩ := ha
  obtain ⟨v, rfl⟩ := hb
  exact ⟨u * v, (EReal.coe_mul u v).symm⟩

theorem real_sum {ι : Type*} (S : Finset ι) (f : ι → EReal) (h : ∀ j, ∃ t : ℝ, f j = t) : ∃ t : ℝ, ∑ j ∈ S, f j = t := by
  choose u hu using h
  exact ⟨∑ j ∈ S, u j, by rw [← sum_real]; exact Finset.sum_congr rfl fun j _ => hu j⟩

theorem eighth_real : ∃ t : ℝ, Ideal.ofBits .f32 0x3E000000#32 = (t : EReal) := by
  refine ⟨1 / 8, ?_⟩
  simp [Ideal.ofBits, Ideal.ieee, -EReal.coe_mul]
  norm_num

/-- A maximum over real numbers, started at the least element, is a real number. -/
theorem fold_max_real {ι : Type*} (S : Finset ι) (f : ι → EReal) (h : ∀ j, ∃ t : ℝ, f j = t) (hS : S.Nonempty) : ∃ t : ℝ, S.fold max ⊥ f = t := by
  classical
  induction hS using Finset.Nonempty.cons_induction with
  | singleton a => obtain ⟨t, ht⟩ := h a; exact ⟨t, by rw [Finset.fold_singleton, ht, max_bot_right]⟩
  | cons a S ha hS ih =>
    obtain ⟨t, ht⟩ := h a
    obtain ⟨u, hu⟩ := ih
    exact ⟨max t u, by rw [Finset.fold_cons, ht, hu]; exact (EReal.coe_strictMono.monotone.map_max (a := t) (b := u)).symm⟩

section
open Cert.ReferenceIdeal Cert.ReferenceIdeal.Gen
variable (x : FVec Ideal S2x128x512 .f32) (Wq : FVec Ideal S512x16384 .f32) (K V : FVec Ideal S2x128x64x64 .f32) (Wo : FVec Ideal S16384x512 .f32)

theorem scoreOf_real (hx : AllReal x) (hq : AllReal Wq) (hK : AllReal K) (b : Fin 2) (h : Fin 256) (i j : Fin 128) : ∃ t : ℝ, scoreOf x Wq K b h i j = t :=
  real_mul (real_sum _ _ fun _ => real_mul (real_sum _ _ fun _ => real_mul (hx _) (hq _)) (hK _)) eighth_real

theorem reduces_last : S2x256x128x128.Reduces [3] S2x256x128 := by decide

theorem least_bits : Ideal.ofBits .f32 0xFF800000#32 = ⊥ := by simp [Ideal.ofBits, Ideal.ieee]

theorem top_real (hx : AllReal x) (hq : AllReal Wq) (hK : AllReal K) (b : Fin 2) (h : Fin 256) (i : Fin 128) : ∃ t : ℝ, top x Wq K b h i = t := by
  have hs (J : S2x256x128x128.Idx) : ∃ t : ℝ, (scaled (queries x Wq) (repeated K) J : EReal) = t := by
    have hJ : J = (ix4 (J 0 : Fin 2) (J 1 : Fin 256) (J 2 : Fin 128) (J 3 : Fin 128) : S2x256x128x128.Idx) :=
      funext fun a => by match a with | 0 => rfl | 1 => rfl | 2 => rfl | 3 => rfl
    obtain ⟨t, ht⟩ := scoreOf_real x Wq K hx hq hK (J 0) (J 1) (J 2) (J 3)
    exact ⟨t, (congrArg (scaled (queries x Wq) (repeated K)) hJ).trans ((scores_eq x Wq K (J 0) (J 1) (J 2) (J 3)).trans ht)⟩
  unfold top largest
  rw [Host.reduce_eq_fold_single _ _ _ _ reduces_last]
  show ∃ t : ℝ, Finset.fold max (Ideal.ofBits .f32 0xFF800000#32) _ _ = (t : EReal)
  rw [least_bits]
  exact fold_max_real _ _ (fun _ => hs _) ⟨(0 : Fin 128), Finset.mem_univ _⟩

/-! ## The two sums -/

/-- Head `a` of group `g` of device `p`. -/
def headOf (p : Fin 32) (g : Fin 2) (a : Fin 4) : Fin 256 := ⟨p.val * 8 + (g.val * 4 + a.val), by omega⟩

theorem sum_headOf {M : Type*} [AddCommMonoid M] (f : Fin 256 → M) : ∑ h : Fin 256, f h = ∑ p : Fin 32, ∑ g : Fin 2, ∑ a : Fin 4, f (headOf p g a) := by
  rw [Fin.sum_univ_tiles 32 8 rfl f]
  refine Finset.sum_congr rfl fun p _ => ?_
  exact Fin.sum_univ_tiles 2 4 rfl fun q : Fin 8 => f ⟨p.val * 8 + q.val, by omega⟩

theorem groupOf_headOf (p : Fin 32) (g : Fin 2) (a : Fin 4) : groupOf (headOf p g a) = kvHead p g :=
  Fin.ext (by show (p.val * 8 + (g.val * 4 + a.val)) / 4 = 2 * p.val + g.val; omega)

theorem blockQ_at (p : Fin 32) (k : Fin 512) (g : Fin 2) (a : Fin 4) (d : Fin 64) :
    Layout.block ⟨2, ![512, 512]⟩ ⟨2, ![512, 16384]⟩ 1 32 p Wq (by decide) (ix2 k (at2 g (at4 256 rfl a d))) = Wq (ix2 k (col (headOf p g a) d)) := by
  refine congrArg Wq (funext fun b => Fin.ext ?_)
  match b with
  | 0 => rfl
  | 1 => show p.val * 512 + (g.val * 256 + (a.val * 64 + d.val)) = (p.val * 8 + (g.val * 4 + a.val)) * 64 + d.val; omega

theorem blockO_at (p : Fin 32) (e : Fin 512) (g : Fin 2) (a : Fin 4) (d : Fin 64) :
    Layout.block ⟨2, ![512, 512]⟩ ⟨2, ![16384, 512]⟩ 0 32 p Wo (by decide) (ix2 (at2 g (at4 256 rfl a d)) e) = Wo (ix2 (col (headOf p g a) d) e) := by
  refine congrArg Wo (funext fun b => Fin.ext ?_)
  match b with
  | 0 => show p.val * 512 + (g.val * 256 + (a.val * 64 + d.val)) = (p.val * 8 + (g.val * 4 + a.val)) * 64 + d.val; omega
  | 1 => rfl

theorem sums_eq (hx : AllReal x) (hq : AllReal Wq) (hK : AllReal K) (b : Fin 2) (i : Fin 128) (e : Fin 512) :
    (∑ p : Fin 32, fromHeads x (Layout.block ⟨2, ![512, 512]⟩ ⟨2, ![512, 16384]⟩ 1 32 p Wq (by decide)) K V
        (Layout.block ⟨2, ![512, 512]⟩ ⟨2, ![16384, 512]⟩ 0 32 p Wo (by decide)) p b i e)
      = (value x Wq K V Wo (ix3 b i e) : EReal) := by
  rw [value_at, sum_headOf]
  refine Finset.sum_congr rfl fun p _ => Finset.sum_congr rfl fun g _ => Finset.sum_congr rfl fun a _ => Finset.sum_congr rfl fun d _ => ?_
  rw [blockO_at]
  congr 1
  obtain ⟨M, hM⟩ := top_real x Wq K hx hq hK b (headOf p g a) i
  choose t ht using scoreOf_real x Wq K hx hq hK b (headOf p g a) i
  have hs : score (fun d => ∑ k : Fin 512, x (ix3 b i k) * Layout.block ⟨2, ![512, 512]⟩ ⟨2, ![512, 16384]⟩ 1 32 p Wq (by decide) (ix2 k (at2 g (at4 256 rfl a d))))
      (fun j d => K (ix4 b j (kvHead p g) d)) = fun j => (t j : EReal) := by
    funext j
    rw [← ht j]
    unfold score scoreOf
    simp only [blockQ_at, groupOf_headOf]
  rw [hs, soft_eq M, hM]
  unfold softSub
  simp only [ht, groupOf_headOf, mul_comm]

end

end Cert.A2A
end
-- ==== Proof.Finite.lean ====
/- What the precondition says over the extended reals: the tokens, the query weights and the keys are real numbers. -/
module
public import proofs.«01_k».proof.Defs
public import proofs.«01_k».proof.Proof.Equal
public import Idealize.ShloMosaic.Lib.ReduceAll

@[expose] public section
noncomputable section

namespace Cert.A2A
open Idealize.ShloMosaic Idealize.ShloMosaic.TcCoe

theorem facts_pre : Cert.Pre_finite_scores_KernelIdeal.Facts where
  bcast_S_S2x128x512 := by decide
  reducesTo_S2x128x512_S_d0_1_2 := by decide
  h_S_ := by decide
  bcast_S_S512x512 := by decide
  reducesTo_S512x512_S_d0_1 := by decide
  bcast_S_S2x128x64x64 := by decide
  reducesTo_S2x128x64x64_S_d0_1_2_3 := by decide

theorem facts_preReference : Cert.Pre_finite_scores_ReferenceIdeal.Facts := by
  constructor <;> decide

/-- An extended real whose absolute value is below infinity is a real number. -/
theorem real_of_cmp (t : EReal) (h : Ideal.cmp .olt (max t (-t)) (Ideal.ofBits .f32 0x7F800000#32) = 1#1) : ∃ u : ℝ, t = u := by
  rw [show Ideal.ofBits .f32 0x7F800000#32 = ⊤ by simp [Ideal.ofBits, Ideal.ieee]] at h
  have hlt : max t (-t) < ⊤ := by
    by_contra hn
    simp [Ideal.cmp, hn] at h
  induction t with
  | bot => simp at hlt
  | top => simp at hlt
  | coe u => exact ⟨u, rfl⟩

section
open Cert.Pre_finite_scores_KernelIdeal Cert.Pre_finite_scores_KernelIdeal.Facts
variable [Cert.Pre_finite_scores_KernelIdeal.Facts]

/-- An array whose every entry passes the test has real entries. -/
theorem real_of_all {s : Shape} {axes : List (Fin s.rank)} (x : FVec Ideal s .f32) (hb : S_.BroadcastsInDim s (![] : Fin 0 → Fin s.rank)) (hr : s.ReducesTo axes S_)
    (j : S_.Idx) (h : Host.reduce IntOp.andi (cmpf (F := Ideal) .olt (Host.absf (F := Ideal) x) (broadcastInDim s ![] hb (constant (F := Ideal) S_ .f32 0x7F800000#32)))
      (constantI S_ 1 1#1) hr h_S_ j = 1#1) : AllReal x := fun i =>
  haveI : Subsingleton S_.Idx := ⟨fun a b => funext fun k => k.elim0⟩
  real_of_cmp _ (Host.reduce_andi_all _ _ hr h_S_ j h i)

theorem real_of_pre (x : FVec Ideal S2x128x512 .f32) (wq : FVec Ideal S512x512 .f32) (K V : FVec Ideal S2x128x64x64 .f32) (wo : FVec Ideal S512x512 .f32)
    (h : fn (F := Ideal) x wq K V wo = fun _ => 1#1) : AllReal x ∧ AllReal wq ∧ AllReal K := by
  have h0 := congrFun h (Shape.Idx.first h_S_)
  obtain ⟨h1, h2⟩ := IntOp.andi_eq_one.1 h0
  obtain ⟨h3, h4⟩ := IntOp.andi_eq_one.1 h1
  exact ⟨real_of_all x _ _ _ h3, real_of_all wq _ _ _ h4, real_of_all K _ _ _ h2⟩

end

/-- An array has real entries when each of its blocks of columns has. -/
theorem real_of_blocks (W : FVec Ideal Cert.ReferenceIdeal.S512x16384 .f32)
    (h : ∀ p : Fin 32, AllReal (s := ⟨2, ![512, 512]⟩) (Layout.block ⟨2, ![512, 512]⟩ ⟨2, ![512, 16384]⟩ 1 32 p W (by decide))) : AllReal W := fun i => by
  have h1 : (i 1).val < 16384 := (i 1).isLt
  obtain ⟨u, hu⟩ := h ⟨(i 1).val / 512, by omega⟩ (ix2 (i 0 : Fin 512) (⟨(i 1).val % 512, by omega⟩ : Fin 512))
  refine ⟨u, Eq.trans (congrArg W (funext fun b => Fin.ext ?_)) hu⟩
  match b with
  | 0 => rfl
  | 1 => show (i 1).val = (i 1).val / 512 * 512 + (i 1).val % 512; omega

end Cert.A2A
end
-- ==== Proof.lean ====
/- The certificate: the frames of the program, of its ideal reading and of the reference, and that the ideal reading computes what the
   reference computes. -/
module

public import proofs.«01_k».proof.Defs
public import proofs.«01_k».proof.Proof.Launch
public import proofs.«01_k».proof.Proof.Finite
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

/-- The frame of the ideal reading's program, over any values. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).2, h.2⟩) (Cert.KernelIdeal.A2A.run_main m ρ)

/-- The two programs' body tables hold the same bodies: compared label by label. -/
theorem bodies_eq {F : FTy → Type} [FloatOps F] : Cert.Kernel.defs₀ (F := F) = Cert.KernelIdeal.defs₀ (F := F) := by
  funext p ℓ a
  cases p with
  | tc =>
    obtain ⟨n, hn⟩ := ℓ
    cases n with
    | zero => rfl
    | succ n => exact absurd hn (Nat.not_lt.2 (Nat.le_add_left _ _))
  | scScalar _ => rfl
  | scVector _ _ => rfl

theorem defs_eq {F : FTy → Type} [FloatOps F] : Cert.Kernel.defs (F := F) = Cert.KernelIdeal.defs (F := F) :=
  congrArg (Pipeline.defs Cert.KernelIdeal.pcfgs) bodies_eq

/-- The program as printed is, but for its name, the text of its ideal reading. -/
theorem frame_kernel : Cert.quiescent_Kernel := by
  intro m ρ _
  rw [defs_eq]
  exact frame_any (F := Bits) m ρ

theorem frame_ideal : Cert.quiescent_KernelIdeal := fun m ρ _ => frame_any (F := Ideal) m ρ

/-- The reference declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

instance : Cert.Pre_finite_scores_KernelIdeal.Facts := Cert.A2A.facts_pre
instance : Cert.Pre_finite_scores_ReferenceIdeal.Facts := Cert.A2A.facts_preReference

theorem frame_ideal_pre : Cert.quiescent_KernelIdeal_pre_finite_scores_KernelIdeal := fun m ρ _ => frame_ideal m ρ trivial
theorem frame_reference_pre : Cert.quiescent_ReferenceIdeal_pre_finite_scores_ReferenceIdeal := fun m ρ _ => frame_reference m ρ trivial

/-- What both programs leave in their results. -/
def common (m' : (ℓ : Loc Cert.ReferenceIdeal.nD Cert.ReferenceIdeal.τ Cert.ReferenceIdeal.sig) → Buf (Elt Ideal) ℓ) : FVec Ideal Cert.ReferenceIdeal.S2x128x512 .f32 :=
  Cert.ReferenceIdeal.A2A.value
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4))

/-- The program leaves the reference's value: compared at every batch, token and column. -/
theorem out_common (m : (ℓ : Loc Cert.KernelIdeal.nD Cert.KernelIdeal.τ Cert.KernelIdeal.sig) → Buf (Elt Ideal) ℓ) (c : Dev Cert.KernelIdeal.nD)
    (x : FVec Ideal Cert.ReferenceIdeal.S2x128x512 .f32) (Wq : FVec Ideal Cert.ReferenceIdeal.S512x16384 .f32) (K V : FVec Ideal Cert.ReferenceIdeal.S2x128x64x64 .f32)
    (Wo : FVec Ideal Cert.ReferenceIdeal.S16384x512 .f32) (hx : Cert.A2A.AllReal x) (hq : Cert.A2A.AllReal Wq) (hK : Cert.A2A.AllReal K)
    (h0 : ∀ p : Dev Cert.KernelIdeal.nD, m ((p.tc : Thread Cert.KernelIdeal.nD Cert.KernelIdeal.τ).loc Cert.KernelIdeal.main_arg0) = x)
    (h1 : ∀ p : Dev Cert.KernelIdeal.nD, m ((p.tc : Thread Cert.KernelIdeal.nD Cert.KernelIdeal.τ).loc Cert.KernelIdeal.main_arg1) = Layout.block ⟨2, ![512, 512]⟩ ⟨2, ![512, 16384]⟩ 1 32 p Wq)
    (h2 : ∀ p : Dev Cert.KernelIdeal.nD, m ((p.tc : Thread Cert.KernelIdeal.nD Cert.KernelIdeal.τ).loc Cert.KernelIdeal.main_arg2) = K)
    (h3 : ∀ p : Dev Cert.KernelIdeal.nD, m ((p.tc : Thread Cert.KernelIdeal.nD Cert.KernelIdeal.τ).loc Cert.KernelIdeal.main_arg3) = V)
    (h4 : ∀ p : Dev Cert.KernelIdeal.nD, m ((p.tc : Thread Cert.KernelIdeal.nD Cert.KernelIdeal.τ).loc Cert.KernelIdeal.main_arg4) = Layout.block ⟨2, ![512, 512]⟩ ⟨2, ![16384, 512]⟩ 0 32 p Wo) :
    Cert.KernelIdeal.A2A.out m c = Cert.ReferenceIdeal.A2A.value x Wq K V Wo := by
  have key (b : Fin 2) (s : Fin 16) (r : Fin 8) (e : Fin 512) :
      (Cert.KernelIdeal.A2A.out m c (ix3 b (Cert.KernelIdeal.A2A.row s r) e) : EReal) = Cert.ReferenceIdeal.A2A.value x Wq K V Wo (ix3 b (Cert.KernelIdeal.A2A.row s r) e) := by
    refine (Cert.KernelIdeal.A2A.out_args m c b s r e).trans (Eq.trans ?_ (Cert.A2A.sums_eq x Wq K V Wo hx hq hK b (Cert.KernelIdeal.A2A.row s r) e))
    refine Finset.sum_congr (M := EReal) rfl fun p _ => ?_
    rw [h0 p, h1 p, h2 p, h3 p, h4 p]
  funext J
  have hi : (J 1).val < 128 := (J 1).isLt
  have hJ : J = (ix3 (J 0 : Fin 2) (Cert.KernelIdeal.A2A.row ⟨(J 1).val / 8, by omega⟩ ⟨(J 1).val % 8, by omega⟩) (J 2 : Fin 512) : Cert.ReferenceIdeal.S2x128x512.Idx) :=
    funext fun a => by
      match a with
      | 0 => rfl
      | 1 => exact Fin.ext (by show (J 1).val = (J 1).val / 8 * 8 + (J 1).val % 8; omega)
      | 2 => rfl
  exact (congrArg (Cert.KernelIdeal.A2A.out m c) hJ).trans ((key _ _ _ _).trans (congrArg (Cert.ReferenceIdeal.A2A.value x Wq K V Wo) hJ).symm)

theorem same_values : Cert.algebraic_KernelIdeal_ReferenceIdeal_pre_finite_scores_KernelIdeal := by
  intro m g m' g' hpre hargs
  have hr (c : Dev Cert.KernelIdeal.nD) := Cert.A2A.real_of_pre _ _ _ _ _ (hpre c)
  have hx := (hr 0).1
  have hK := (hr 0).2.2
  rw [(hargs 0).1] at hx
  rw [(hargs 0).2.2.1] at hK
  have hq := Cert.A2A.real_of_blocks _ fun p => by
    have h := (hr p).2.1
    rw [(hargs p).2.1] at h
    exact h
  have hout (c : Dev Cert.KernelIdeal.nD) : Cert.KernelIdeal.A2A.out m c = common m' :=
    out_common m c _ _ _ _ _ hx hq hK (fun p => (hargs p).1) (fun p => (hargs p).2.1) (fun p => (hargs p).2.2.1) (fun p => (hargs p).2.2.2.1) fun p => (hargs p).2.2.2.2
  refine ⟨common m', ?_, ?_⟩
  · exact (θ_run Cert.KernelIdeal.defs _ _).mono (fun _ h c => ⟨(h.1 c).1.trans (hout c), (h.1 c).2⟩) (Cert.KernelIdeal.A2A.run_main m g)
  · exact (θ_run Cert.ReferenceIdeal.defs _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts, Cert.A2A.facts_pre, Cert.A2A.facts_preReference,
    frame_kernel, frame_ideal, frame_ideal_pre, frame_reference, frame_reference_pre, trivial, same_values⟩

end Cert.Proof

end
